-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 2048, 16, 64]⟩ ⟨4, ![2, 2048, 64, 64]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 512, 4096]⟩ ⟨3, ![2, 2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x16x64 : Shape := ⟨4, ![2, 2048, 16, 64]⟩
abbrev S1024x4096 : Shape := ⟨2, ![1024, 4096]⟩
abbrev S2x2048x1024 : Shape := ⟨3, ![2, 2048, 1024]⟩
abbrev S2x512x4096 : Shape := ⟨3, ![2, 512, 4096]⟩
abbrev S2x2x512x2048 : Shape := ⟨4, ![2, 2, 512, 2048]⟩
abbrev S2x512x1024 : Shape := ⟨3, ![2, 512, 1024]⟩
abbrev S2x512x2048 : Shape := ⟨3, ![2, 512, 2048]⟩
abbrev S_ : Shape := ⟨0, ![]⟩
abbrev S2x2 : Shape := ⟨2, ![2, 2]⟩
abbrev S3x2 : Shape := ⟨2, ![3, 2]⟩
abbrev S1x512x1024 : Shape := ⟨3, ![1, 512, 1024]⟩
abbrev S512x1024 : Shape := ⟨2, ![512, 1024]⟩
abbrev S1024x2048 : Shape := ⟨2, ![1024, 2048]⟩
abbrev S512x2048 : Shape := ⟨2, ![512, 2048]⟩
abbrev S1x512x2048 : Shape := ⟨3, ![1, 512, 2048]⟩
abbrev S1x1x512x2048 : Shape := ⟨4, ![1, 1, 512, 2048]⟩
abbrev S1x1 : Shape := ⟨2, ![1, 1]⟩
abbrev S1x2x256x2048 : Shape := ⟨4, ![1, 2, 256, 2048]⟩
abbrev S2x256x2048 : Shape := ⟨3, ![2, 256, 2048]⟩
abbrev S1x1x256x2048 : Shape := ⟨4, ![1, 1, 256, 2048]⟩
abbrev S256x2048 : Shape := ⟨2, ![256, 2048]⟩
abbrev S1x256x2048 : Shape := ⟨3, ![1, 256, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x16x64, .f32⟩
  | .hbm, ⟨1, _⟩ => ⟨S1024x4096, .f32⟩
  | .hbm, ⟨2, _⟩ => ⟨S2x2048x1024, .f32⟩
  | .hbm, ⟨3, _⟩ => ⟨S1024x4096, .bf16⟩
  | .hbm, ⟨4, _⟩ => ⟨S2x512x4096, .f32⟩
  | .local _ .vmem, ⟨0, _⟩ => ⟨S1024x4096, .bf16⟩
  | .local _ .vmem, ⟨1, _⟩ => ⟨S2x2x512x2048, .bf16⟩
  | .local _ .vmem, ⟨2, _⟩ => ⟨S2x2x512x2048, .bf16⟩
  | .local _ .vmem, ⟨3, _⟩ => ⟨S2x512x1024, .f32⟩
  | .local _ .vmem, ⟨4, _⟩ => ⟨S2x512x2048, .f32⟩
  | .local _ .vmem, ⟨5, _⟩ => ⟨S2x512x2048, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 3 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c4_i32_20 : BitVec 32) (c1_i32_21 : BitVec 32) : Fin 3 → Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.addi v2 c4_i32_20
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32 : BitVec 32 := 512#32
  let v54 : BitVec 32 := Scalar.muli v42 c512_i32
  let c0_i32_36 : BitVec 32 := 0#32
  ![0, v54.toNat, 0]
def k0_off1_at (r : Fin 4) : BitVec 32 × BitVec 32 :=
  if r.val < 2 then
    if r.val < 1 then
      (4#32, 1#32)
    else
      (2#32, 0#32)
  else
    if r.val < 3 then
      (2#32, 1#32)
    else
      (2#32, 2#32)
def k0_off2 (d0 : Dev nD) : Fin 3 → Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32_54 : BitVec 32 := 512#32
  let v75 : BitVec 32 := Scalar.muli v53 c512_i32_54
  let c0_i32_56 : BitVec 32 := 0#32
  ![0, v75.toNat, 0]
def k0_dev3 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_110 : BitVec 32 := 1#32
  let v120 : BitVec 32 := Scalar.muli v25 c1_i32_110
  let v121 : BitVec 32 := Scalar.addi c0_i32_111 v120
  v121.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_124 : BitVec 32 := 1#32
  let v130 : BitVec 32 := Scalar.muli v14 c1_i32_124
  let v131 : BitVec 32 := Scalar.addi c0_i32_125 v130
  v131.toNat
def k0_dev5 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_138 : BitVec 32 := 1#32
  let v140 : BitVec 32 := Scalar.muli v25 c1_i32_138
  let v141 : BitVec 32 := Scalar.addi c0_i32_139 v140
  v141.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_151 : BitVec 32 := 1#32
  let v150 : BitVec 32 := Scalar.muli v14 c1_i32_151
  let v151 : BitVec 32 := Scalar.addi c0_i32_152 v150
  v151.toNat
def k0_off3 (d0 : Dev nD) (c0_i32_168 : BitVec 32) : Fin 3 → Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_167 : BitVec 32 := 2#32
  let v172 : BitVec 32 := Scalar.addi v2 c2_i32_167
  let v173 : BitVec 32 := Scalar.addi v172 c0_i32_168
  let c4_i32_169 : BitVec 32 := 4#32
  let c0_i32_170 : BitVec 32 := 0#32
  let v174 : BitVec 1 := Scalar.cmpi .eq c4_i32_169 c0_i32_170
  let c1_i32_171 : BitVec 32 := 1#32
  let v175 : BitVec 32 := Scalar.select v174 c1_i32_171 c4_i32_169
  let v176 : BitVec 32 := Scalar.remsi v173 v175
  let c0_i32_173 : BitVec 32 := 0#32
  let v178 : BitVec 1 := Scalar.cmpi .slt v176 c0_i32_173
  let c0_i32_174 : BitVec 32 := 0#32
  let v179 : BitVec 1 := Scalar.cmpi .slt v175 c0_i32_174
  let v180 : BitVec 1 := Scalar.xori v178 v179
  let c0_i32_172 : BitVec 32 := 0#32
  let v177 : BitVec 1 := Scalar.cmpi .ne v176 c0_i32_172
  let v181 : BitVec 1 := Scalar.andi v180 v177
  let v182 : BitVec 32 := Scalar.addi v176 v175
  let v183 : BitVec 32 := Scalar.select v181 v182 v176
  let c512_i32_198 : BitVec 32 := 512#32
  let v205 : BitVec 32 := Scalar.muli v183 c512_i32_198
  let c0_i32_200 : BitVec 32 := 0#32
  ![0, v205.toNat, 0]
def k0_dev7 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_274 : BitVec 32 := 1#32
  let v250 : BitVec 32 := Scalar.muli v14 c1_i32_274
  let v251 : BitVec 32 := Scalar.addi c0_i32_275 v250
  v251.toNat
def k0_dev8 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_277 : BitVec 32 := 1#32
  let v252 : BitVec 32 := Scalar.muli v25 c1_i32_277
  let v253 : BitVec 32 := Scalar.addi c0_i32_278 v252
  v253.toNat
def k0_dev9 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_430 : BitVec 32 := 1#32
  let v366 : BitVec 32 := Scalar.muli v25 c1_i32_430
  let v367 : BitVec 32 := Scalar.addi c0_i32_431 v366
  v367.toNat
def k0_dev10 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_446 : BitVec 32 := 1#32
  let v376 : BitVec 32 := Scalar.muli v14 c1_i32_446
  let v377 : BitVec 32 := Scalar.addi c0_i32_447 v376
  v377.toNat
def k0_dev11 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_462 : BitVec 32 := 1#32
  let v386 : BitVec 32 := Scalar.muli v25 c1_i32_462
  let v387 : BitVec 32 := Scalar.addi c0_i32_463 v386
  v387.toNat
def k0_dev12 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_478 : BitVec 32 := 1#32
  let v396 : BitVec 32 := Scalar.muli v14 c1_i32_478
  let v397 : BitVec 32 := Scalar.addi c0_i32_479 v396
  v397.toNat
def k0_dev13 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_601 : BitVec 32 := 1#32
  let v496 : BitVec 32 := Scalar.muli v14 c1_i32_601
  let v497 : BitVec 32 := Scalar.addi c0_i32_602 v496
  v497.toNat
def k0_dev14 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_604 : BitVec 32 := 1#32
  let v498 : BitVec 32 := Scalar.muli v25 c1_i32_604
  let v499 : BitVec 32 := Scalar.addi c0_i32_605 v498
  v499.toNat
def k0_dev15 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_758 : BitVec 32 := 1#32
  let v612 : BitVec 32 := Scalar.muli v25 c1_i32_758
  let v613 : BitVec 32 := Scalar.addi c0_i32_759 v612
  v613.toNat
def k0_dev16 (d0 : Dev nD) : Nat :=
  let c0_i32_775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_774 : BitVec 32 := 1#32
  let v622 : BitVec 32 := Scalar.muli v14 c1_i32_774
  let v623 : BitVec 32 := Scalar.addi c0_i32_775 v622
  v623.toNat
def k0_dev17 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_790 : BitVec 32 := 1#32
  let v632 : BitVec 32 := Scalar.muli v25 c1_i32_790
  let v633 : BitVec 32 := Scalar.addi c0_i32_791 v632
  v633.toNat
def k0_dev18 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_806 : BitVec 32 := 1#32
  let v642 : BitVec 32 := Scalar.muli v14 c1_i32_806
  let v643 : BitVec 32 := Scalar.addi c0_i32_807 v642
  v643.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x64x64 : Shape := ⟨4, ![2, 2048, 64, 64]⟩
abbrev S4096x4096 : Shape := ⟨2, ![4096, 4096]⟩
abbrev S2x2048x4096 : Shape := ⟨3, ![2, 2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x64x64, .f32⟩
  | .hbm, ⟨1, _⟩ => ⟨S4096x4096, .f32⟩
  | .hbm, ⟨2, _⟩ => ⟨S2x2048x4096, .f32⟩
  | .hbm, ⟨3, _⟩ => ⟨S2x2048x4096, .f32⟩
  | _, _ => ⟨S2x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
# The kernel's body as a composition of named stretches

The printed body is one long sequence of memory operations. Here it is written again as what the source says it is: an
entry handshake, a first pair of partial products cast into the first slot of each ring's communication buffer, and three
hops, each of them four transfers (two sub-blocks on each of the two rings), the next pair of partial products, four waits
for the transfers out, (but for the last hop) two credit signals, and per sub-block and ring a wait for what came in and its
addition. A ring is a Boolean: `false` runs to the right neighbour, `true` to the left. `body_eq`: the printed body is
that composition, by definitional unfolding.
-/
module

public import proofs.«01_k».proof.Proof.Gen.KernelIdeal.Skeleton
public import Idealize.ShloMosaic.Lib.Pipeline.Kit
public import Idealize.ShloMosaic.Lib.Pipeline.Regions
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.Sem

variable {F : FTy → Type} [FloatOps F]

/-- A program of the kernel's. -/
abbrev P (α : Type) : Type 1 := Prog (TpuEff nD τ sig (Elt F) Λ₀ .tc) α

/-! ## Memrefs -/

/-- The left operand's array, in the outer memory. -/
abbrev oM : Memref sig .tc .hbm S2x2048x1024 .f32 := Memref.whole main_v1
/-- The result array, in the outer memory. -/
abbrev outM : Memref sig .tc .hbm S2x512x4096 .f32 := Memref.whole main_v3
/-- The staging buffer of one chunk of the left operand. -/
abbrev stM : Memref sig .tc .vmem S2x512x1024 .f32 := Memref.whole cc0_scratch2
/-- A ring's communication buffer: two slots. -/
def cM : Bool → Memref sig .tc .vmem S2x2x512x2048 .bf16
  | false => Memref.whole cc0_scratch0
  | true => Memref.whole cc0_scratch1
/-- A ring's buffer of partial products. -/
def pM : Bool → Memref sig .tc .vmem S2x512x2048 .f32
  | false => Memref.whole cc0_scratch3
  | true => Memref.whole cc0_scratch4
theorem cM_whole : ∀ g, (cM g).IsWhole
  | false => Memref.isWhole_whole _
  | true => Memref.isWhole_whole _
theorem pM_whole : ∀ g, (pM g).IsWhole
  | false => Memref.isWhole_whole _
  | true => Memref.isWhole_whole _

/-! ## Rectangles -/

theorem inbC : ∀ (s q : Fin 2) (a : Fin 4), (![s.val, 0, 256 * q.val, 0] : Fin 4 → ℕ) a + S1x2x256x2048.size a ≤ S2x2x512x2048.size a := by decide
theorem inbCb : ∀ (s b q : Fin 2) (a : Fin 4), (![s.val, b.val, 256 * q.val, 0] : Fin 4 → ℕ) a + S1x1x256x2048.size a ≤ S2x2x512x2048.size a := by decide
theorem inbC0 : ∀ (b : Fin 2) (a : Fin 4), (![0, b.val, 0, 0] : Fin 4 → ℕ) a + S1x1x512x2048.size a ≤ S2x2x512x2048.size a := by decide
theorem inbP : ∀ (b : Fin 2) (a : Fin 3), (![b.val, 0, 0] : Fin 3 → ℕ) a + S1x512x2048.size a ≤ S2x512x2048.size a := by decide
theorem inbPq : ∀ (b q : Fin 2) (a : Fin 3), (![b.val, 256 * q.val, 0] : Fin 3 → ℕ) a + S1x256x2048.size a ≤ S2x512x2048.size a := by decide
theorem inbPh : ∀ (q : Fin 2) (a : Fin 3), (![0, 256 * q.val, 0] : Fin 3 → ℕ) a + S2x256x2048.size a ≤ S2x512x2048.size a := by decide
theorem inbS : ∀ (b : Fin 2) (a : Fin 3), (![b.val, 0, 0] : Fin 3 → ℕ) a + S1x512x1024.size a ≤ S2x512x1024.size a := by decide
theorem inbW : ∀ (g : Bool) (a : Fin 2), (![0, 2048 * g.toNat] : Fin 2 → ℕ) a + S1024x2048.size a ≤ S1024x4096.size a := by decide
theorem inbO : ∀ (q : Fin 2) (g : Bool) (a : Fin 3), (![0, 256 * q.val, 2048 * g.toNat] : Fin 3 → ℕ) a + S2x256x2048.size a ≤ S2x512x4096.size a := by decide

/-- Sub-block `q` of slot `s` of a communication buffer. -/
abbrev rC (s q : Fin 2) : Rect S2x2x512x2048 := Rect.unit (s := S2x2x512x2048) ![s.val, 0, 256 * q.val, 0] S1x2x256x2048.size (inbC s q)
/-- Batch row `b` of it. -/
abbrev rCb (s b q : Fin 2) : Rect S2x2x512x2048 := Rect.unit (s := S2x2x512x2048) ![s.val, b.val, 256 * q.val, 0] S1x1x256x2048.size (inbCb s b q)
/-- Batch row `b` of the whole of slot 0. -/
abbrev rC0 (b : Fin 2) : Rect S2x2x512x2048 := Rect.unit (s := S2x2x512x2048) ![0, b.val, 0, 0] S1x1x512x2048.size (inbC0 b)
/-- Batch row `b` of a partial product. -/
abbrev rP (b : Fin 2) : Rect S2x512x2048 := Rect.unit (s := S2x512x2048) ![b.val, 0, 0] S1x512x2048.size (inbP b)
/-- Batch row `b` of sub-block `q` of a partial product. -/
abbrev rPq (b q : Fin 2) : Rect S2x512x2048 := Rect.unit (s := S2x512x2048) ![b.val, 256 * q.val, 0] S1x256x2048.size (inbPq b q)
/-- Sub-block `q` of a partial product, both batch rows. -/
abbrev rPh (q : Fin 2) : Rect S2x512x2048 := Rect.unit (s := S2x512x2048) ![0, 256 * q.val, 0] S2x256x2048.size (inbPh q)
/-- Batch row `b` of the staged chunk. -/
abbrev rS (b : Fin 2) : Rect S2x512x1024 := Rect.unit (s := S2x512x1024) ![b.val, 0, 0] S1x512x1024.size (inbS b)
/-- The half of the weights' columns that ring `g` computes. -/
abbrev rW (g : Bool) : Rect S1024x4096 := Rect.unit (s := S1024x4096) ![0, 2048 * g.toNat] S1024x2048.size (inbW g)
/-- Sub-block `q` of ring `g`'s half of the result. -/
abbrev rO (q : Fin 2) (g : Bool) : Rect S2x512x4096 := Rect.unit (s := S2x512x4096) ![0, 256 * q.val, 2048 * g.toNat] S2x256x2048.size (inbO q g)

/-- Sub-block `q` of slot `s` as a transfer names it. -/
abbrev blkM (g : Bool) (s q : Fin 2) : Memref sig .tc .vmem S2x256x2048 .bf16 :=
  ((cM g).slice (rC s q) (fun _ => rfl)).squeeze S2x256x2048 squeezes_S1x2x256x2048_S2x256x2048

theorem words : ∀ s q : Fin 2, (rC s q).WholeWords EltTy.bf16.packing
  | 0, 0 => wordsbf16_S2x2x512x2048_S1x2x256x2048_0_0_0_0
  | 0, 1 => wordsbf16_S2x2x512x2048_S1x2x256x2048_0_0_256_0
  | 1, 0 => wordsbf16_S2x2x512x2048_S1x2x256x2048_1_0_0_0
  | 1, 1 => wordsbf16_S2x2x512x2048_S1x2x256x2048_1_0_256_0
theorem blkM_words (g : Bool) (s q : Fin 2) : (blkM g s q).view.WordExact :=
  ((cM_whole g).wordExact_slice rfl _ (words s q)).reshape _ _
theorem packed : ∀ s b q : Fin 2, (rCb s b q).PackedRows EltTy.bf16.packing
  | 0, 0, 0 => packedbf16_S2x2x512x2048_S1x1x256x2048_0_0_0_0
  | 0, 0, 1 => packedbf16_S2x2x512x2048_S1x1x256x2048_0_0_256_0
  | 0, 1, 0 => packedbf16_S2x2x512x2048_S1x1x256x2048_0_1_0_0
  | 0, 1, 1 => packedbf16_S2x2x512x2048_S1x1x256x2048_0_1_256_0
  | 1, 0, 0 => packedbf16_S2x2x512x2048_S1x1x256x2048_1_0_0_0
  | 1, 0, 1 => packedbf16_S2x2x512x2048_S1x1x256x2048_1_0_256_0
  | 1, 1, 0 => packedbf16_S2x2x512x2048_S1x1x256x2048_1_1_0_0
  | 1, 1, 1 => packedbf16_S2x2x512x2048_S1x1x256x2048_1_1_256_0
theorem packed0 : ∀ b : Fin 2, (rC0 b).PackedRows EltTy.bf16.packing
  | 0 => packedbf16_S2x2x512x2048_S1x1x512x2048_0_0_0_0
  | 1 => packedbf16_S2x2x512x2048_S1x1x512x2048_0_1_0_0

/-! ## Semaphores -/

theorem inb32 : ∀ (h : Fin 3) (q : Fin 2) (a : Fin 2), (![h.val, q.val] : Fin 2 → ℕ) a + S1x1.size a ≤ S3x2.size a := by decide
theorem inb22 : ∀ (q : Fin 2) (g : Bool) (a : Fin 2), (![q.val, g.toNat] : Fin 2 → ℕ) a + S1x1.size a ≤ S2x2.size a := by decide
/-- One semaphore of a table of hops and sub-blocks. -/
def at32 (A : DmaSems sig S3x2) (h : Fin 3) (q : Fin 2) : DmaSem sig :=
  ((A.slice (Rect.unit (s := S3x2) ![h.val, q.val] S1x1.size (inb32 h q))).squeeze S_ squeezes_S1x1_S_).sem
/-- The semaphore of the chunk loads. -/
abbrev loadS : DmaSem sig := cc0_scratch5.sem
/-- The send semaphore of hop `h`, sub-block `q`, ring `g`. -/
def sendS (g : Bool) (h : Fin 3) (q : Fin 2) : DmaSem sig := at32 (match g with | false => cc0_scratch7 | true => cc0_scratch9) h q
/-- The receive semaphore of hop `h`, sub-block `q`, ring `g`. -/
def recvS (g : Bool) (h : Fin 3) (q : Fin 2) : DmaSem sig := at32 (match g with | false => cc0_scratch8 | true => cc0_scratch10) h q
/-- The semaphore of the result's store of sub-block `q`, ring `g`. -/
def storeS (q : Fin 2) (g : Bool) : DmaSem sig :=
  ((cc0_scratch6.slice (Rect.unit (s := S2x2) ![q.val, g.toNat] S1x1.size (inb22 q g))).squeeze S_ squeezes_S1x1_S_).sem
/-- The credit semaphore of ring `g`. -/
def credS : Bool → Sem sig
  | false => cc0_scratch11.sem
  | true => cc0_scratch12.sem
/-- The entry handshake's semaphore. -/
abbrev barS : Sem sig := (SemArray.scalar (sig.barrier 0 rfl) : Sems sig S_).sem

/-! ## The stretches -/

/-- One batch row of one partial product. -/
def dotRow (wM : Memref sig .tc .vmem S1024x4096 .bf16) (g : Bool) (b : Fin 2) : P (F := F) PUnit := do
  let a ← Prog.lift (.load stM (rS b).toLoadRect (View.loadsAt_vmem h_S1x512x1024))
  let w ← Prog.lift (.load wM (rW g).toLoadRect (View.loadsAt_vmem h_S1024x2048))
  let _ ← Prog.lift (.load (pM g) (rP b).toLoadRect (View.loadsAt_vmem h_S1x512x2048))
  Prog.lift (.store (pM g) (rP b) (k0_pay3 a w) Finset.univ (View.stores_vmem_bits_univ h_S1x512x2048 rfl) (.inl rfl))

/-- One ring's partial product of a chunk of the left operand: the chunk's load, then its two batch rows. -/
def partialOf (wM : Memref sig .tc .vmem S1024x4096 .bf16) (g : Bool) (off : Fin 3 → ℕ) (hoff : ∀ a, off a + S2x512x1024.size a ≤ S2x2048x1024.size a) :
    P (F := F) PUnit := do
  Prog.lift (.enqueueDma (oM.slice (Rect.unit (s := S2x2048x1024) off S2x512x1024.size hoff) (fun _ => rfl)) (.here stM) (.dma loadS)
    (View.wordExact_bits rfl) (Memref.isWhole_whole _).wordExact ⟨Or.inl rfl, trivial⟩)
  Prog.lift (.waitDma2 loadS (oM.slice (Rect.unit (s := S2x2048x1024) off S2x512x1024.size hoff) (fun _ => rfl)) stM
    (View.wordExact_bits rfl) (Memref.isWhole_whole _).wordExact)
  dotRow wM g 0
  dotRow wM g 1

/-- One batch row of the first partial product, cast into slot 0 of the communication buffer. -/
def castRow (g : Bool) (b : Fin 2) : P (F := F) PUnit := do
  let a ← Prog.lift (.load (pM g) (rP b).toLoadRect (View.loadsAt_vmem h_S1x512x2048))
  let _ ← Prog.lift (.load (cM g) (rC0 b).toLoadRect (View.loadsAt_vmem h_S1x1x512x2048))
  Prog.lift (.store (cM g) (rC0 b) (k0_pay7 a) Finset.univ (View.stores_vmem h_S1x1x512x2048 ((cM_whole g).storeExact_slice rfl _ (packed0 b)) (fun _ => rfl)) (.inl rfl))

/-- One transfer of a hop: sub-block `q` of slot `s` to slot `r` of the device `dst`. -/
def sendOne (g : Bool) (h : Fin 3) (s r q : Fin 2) (dst : Dev nD) : P (F := F) PUnit :=
  Prog.lift (.enqueueDma (blkM g s q) (.remote (Dev.tc dst) (blkM g r q) (.dma (sendS g h q))) (.dma (recvS g h q)) (blkM_words g s q) (blkM_words g r q)
    ⟨⟨by cases g <;> rfl, Or.inl rfl⟩, trivial⟩)

/-- The same after a credit. -/
def sendCred (g : Bool) (h : Fin 3) (s r q : Fin 2) (dst : Dev nD) : P (F := F) PUnit := do
  semWaitWord (credS g) 1#32
  sendOne g h s r q dst

/-- The wait for a transfer out. -/
def waitSend (g : Bool) (h : Fin 3) (s r q : Fin 2) : P (F := F) PUnit :=
  Prog.lift (.waitDma2 (sendS g h q) (blkM g r q) (blkM g s q) (blkM_words g r q) (blkM_words g s q))
/-- The wait for a transfer in. -/
def waitRecv (g : Bool) (h : Fin 3) (s r q : Fin 2) : P (F := F) PUnit :=
  Prog.lift (.waitDma2 (recvS g h q) (blkM g s q) (blkM g r q) (blkM_words g s q) (blkM_words g r q))

/-- One batch row of what came in, this device's partial product added, put back for the next hop. -/
def accRow (g : Bool) (r q b : Fin 2) : P (F := F) PUnit := do
  let x ← Prog.lift (.load (cM g) (rCb r b q).toLoadRect (View.loadsAt_vmem h_S1x1x256x2048))
  let y ← Prog.lift (.load (pM g) (rPq b q).toLoadRect (View.loadsAt_vmem h_S1x256x2048))
  let _ ← Prog.lift (.load (cM g) (rCb r b q).toLoadRect (View.loadsAt_vmem h_S1x1x256x2048))
  Prog.lift (.store (cM g) (rCb r b q) (k0_pay16 x y) Finset.univ (View.stores_vmem h_S1x1x256x2048 ((cM_whole g).storeExact_slice rfl _ (packed r b q)) (fun _ => rfl)) (.inl rfl))

/-- A transfer in, waited for and added. -/
def accOne (g : Bool) (h : Fin 3) (s r q : Fin 2) : P (F := F) PUnit := do
  waitRecv g h s r q
  accRow g r q 0
  accRow g r q 1

/-- The last hop's addition, into the buffer of partial products. -/
def finRow (g : Bool) (r q b : Fin 2) : P (F := F) PUnit := do
  let x ← Prog.lift (.load (cM g) (rCb r b q).toLoadRect (View.loadsAt_vmem h_S1x1x256x2048))
  let y ← Prog.lift (.load (pM g) (rPq b q).toLoadRect (View.loadsAt_vmem h_S1x256x2048))
  let _ ← Prog.lift (.load (pM g) (rPq b q).toLoadRect (View.loadsAt_vmem h_S1x256x2048))
  Prog.lift (.store (pM g) (rPq b q) (k0_pay46 x y) Finset.univ (View.stores_vmem_bits_univ h_S1x256x2048 rfl) (.inl rfl))

/-- The last hop's transfer in, waited for, added, and its store to the result begun. -/
def finOne (g : Bool) (h : Fin 3) (s r q : Fin 2) : P (F := F) PUnit := do
  waitRecv g h s r q
  finRow g r q 0
  finRow g r q 1
  Prog.lift (.enqueueDma ((pM g).slice (rPh q) (fun _ => rfl)) (.here (outM.slice (rO q g) (fun _ => rfl))) (.dma (storeS q g))
    (View.wordExact_bits rfl) (View.wordExact_bits rfl) ⟨Or.inl rfl, trivial⟩)

/-- The wait for a store to the result. -/
def waitStore (g : Bool) (q : Fin 2) : P (F := F) PUnit :=
  Prog.lift (.waitDma2 (storeS q g) ((pM g).slice (rPh q) (fun _ => rfl)) (outM.slice (rO q g) (fun _ => rfl)) (View.wordExact_bits rfl) (View.wordExact_bits rfl))

/-- The four waits for a hop's transfers out. -/
def waitSends (h : Fin 3) (s r : Fin 2) : P (F := F) PUnit := do
  waitSend false h s r 0
  waitSend true h s r 0
  waitSend false h s r 1
  waitSend true h s r 1

/-- The entry handshake. -/
def handshake (dl dr : Dev nD) : P (F := F) PUnit := do
  semSignalWord dl barS 1#32
  semSignalWord dr barS 1#32
  semWaitWord barS 2#32

/-- A hop before the last. -/
def hop (send : Bool → Fin 3 → Fin 2 → Fin 2 → Fin 2 → Dev nD → P (F := F) PUnit) (wM : Memref sig .tc .vmem S1024x4096 .bf16) (h : Fin 3) (s r : Fin 2)
    (e1 e2 e3 e4 : Dev nD) (o1 o2 : Fin 3 → ℕ) (ho1 : ∀ a, o1 a + S2x512x1024.size a ≤ S2x2048x1024.size a)
    (ho2 : ∀ a, o2 a + S2x512x1024.size a ≤ S2x2048x1024.size a) : P (F := F) PUnit := do
  send false h s r 0 e1
  send true h s r 0 e2
  send false h s r 1 e3
  send true h s r 1 e4
  partialOf wM false o1 ho1
  partialOf wM true o2 ho2
  waitSends h s r

/-- A hop's two credit signals and its four additions. -/
def addUp (h : Fin 3) (s r : Fin 2) (d1 d2 : Dev nD) : P (F := F) PUnit := do
  semSignalWord d1 (credS false) 2#32
  semSignalWord d2 (credS true) 2#32
  accOne false h s r 0
  accOne true h s r 0
  accOne false h s r 1
  accOne true h s r 1

/-- The whole body, past the reading of the device's number. -/
def progAt (wM : Memref sig .tc .vmem S1024x4096 .bf16) (d : Dev nD) : P (F := F) PUnit := do
  handshake ⟨k0_dev1 d, k0_dev1_lt d⟩ ⟨k0_dev2 d, k0_dev2_lt d⟩
  partialOf wM false (k0_off1 d 4#32 1#32) (k0_off1_inb d 0)
  partialOf wM true (k0_off2 d) (k0_off2_inb d)
  castRow false 0
  castRow true 0
  castRow false 1
  castRow true 1
  hop sendOne wM 0 0 1 ⟨k0_dev3 d, k0_dev3_lt d⟩ ⟨k0_dev4 d, k0_dev4_lt d⟩ ⟨k0_dev5 d, k0_dev5_lt d⟩ ⟨k0_dev6 d, k0_dev6_lt d⟩
    (k0_off1 d 2#32 0#32) (k0_off3 d 0#32) (k0_off1_inb d 1) (k0_off3_inb d 0)
  addUp 0 0 1 ⟨k0_dev7 d, k0_dev7_lt d⟩ ⟨k0_dev8 d, k0_dev8_lt d⟩
  hop sendCred wM 1 1 0 ⟨k0_dev9 d, k0_dev9_lt d⟩ ⟨k0_dev10 d, k0_dev10_lt d⟩ ⟨k0_dev11 d, k0_dev11_lt d⟩ ⟨k0_dev12 d, k0_dev12_lt d⟩
    (k0_off1 d 2#32 1#32) (k0_off3 d 1#32) (k0_off1_inb d 2) (k0_off3_inb d 1)
  addUp 1 1 0 ⟨k0_dev13 d, k0_dev13_lt d⟩ ⟨k0_dev14 d, k0_dev14_lt d⟩
  hop sendCred wM 2 0 1 ⟨k0_dev15 d, k0_dev15_lt d⟩ ⟨k0_dev16 d, k0_dev16_lt d⟩ ⟨k0_dev17 d, k0_dev17_lt d⟩ ⟨k0_dev18 d, k0_dev18_lt d⟩
    (k0_off1 d 2#32 2#32) (k0_off3 d 2#32) (k0_off1_inb d 3) (k0_off3_inb d 2)
  finOne false 2 0 1 0
  finOne true 2 0 1 0
  finOne false 2 0 1 1
  finOne true 2 0 1 1
  waitStore false 0
  waitStore true 0
  waitStore false 1
  waitStore true 1

/-- The whole body. -/
def prog (wM : Memref sig .tc .vmem S1024x4096 .bf16) : P (F := F) PUnit := do
  let d ← Prog.lift .deviceId
  progAt wM d

set_option maxRecDepth 65536 in
/-- The printed body is the composition above. -/
theorem body_eq (wM : Memref sig .tc .vmem S1024x4096 .bf16) (hw : wM.IsWhole) :
    cc0_body (F := F) (Memref.whole main_v1) (Memref.isWhole_whole _) wM hw (Memref.whole main_v3) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12
    = prog wM := by
  chain_rfl

end Cert.K

end
-- ==== Proof.Mem.lean ====
/-
# Part of a buffer at given contents

The assertions the kernel's proof carries about memory: `blk M c I X`, that device `c` holds the elements `I` of the memref
`M` outright and that they read as `X`. What loads, stores and copies do to it.
-/
module

public import proofs.«01_k».proof.Proof.Prog
public import Idealize.ShloMosaic.Lib.Rounds
public import Idealize.ShloMosaic.Lib.Release

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- A slot: the device that owns it, the ring, the slot's number. -/
abbrev Key : Type := Dev nD × Bool × Fin 2
/-- The pipeline library's copy. -/
abbrev UP : Type := URounds (GSem nD τ sig) Unit
/-- The protocol's rounds. -/
abbrev UT : Type := URounds (GSem nD τ sig) (Fin 4)
/-- The resources of the proof: the pipeline's, the protocol's rounds, the slots' releases. -/
abbrev UU : Type := UP × (UT × Release.USlots Key)

/-- The model. -/
abbrev MM (F : FTy → Type) : Type := MT nD τ sig ℕ (Elt F) ℕ UU ℕ

/-- Where the pipeline's resources lie. -/
abbrev EP : Emb UP (MM F) := embL
/-- Where the protocol's rounds lie. -/
abbrev ER : Emb UT (MM F) := (Emb.inl : Emb UT (UT × Release.USlots Key)).trans embR
/-- Where the slots' releases lie. -/
abbrev ES : Emb (Release.USlots Key) (MM F) := (Emb.inr : Emb (Release.USlots Key) (UT × Release.USlots Key)).trans embR

/-- No variants are used. -/
abbrev 𝒱₀ : Variants := Variants.none

/-- The kernel's weakest precondition on device `c`. -/
abbrev wpK (c : Dev nD) {α : Type} (p : P (F := F) α) (Q : α → sProp (MM F)) : sProp (MM F) :=
  wp frame (wpE (defs₀ (F := F)) 𝒱₀ (c : Thread nD τ) none) Set.univ p Q

/-! ## Part of a buffer -/

section Blk

variable {sp : Space} {s : Shape} {e : EltTy}

/-- Device `c` holds the elements `I` of `M` outright, and they read as `X`. -/
def blk (M : Memref sig .tc sp s e) (c : Dev nD) (I : Finset s.Idx) (X : s.Idx → Elt F e) : sProp (MM F) :=
  iprop(∃ f : Buf (Elt F) (M.view.loc (c : Thread nD τ)), ⌜∀ i ∈ I, M.view.read (Elt F) f i = X i⌝
    ∗ (M.view.loc (c : Thread nD τ) ↦[M.view.setOn I]{fullShare} f))

/-- The same at contents not named. -/
def anyBlk (M : Memref sig .tc sp s e) (c : Dev nD) (I : Finset s.Idx) : sProp (MM F) :=
  Release.slot (M.view.loc (c : Thread nD τ)) (M.view.setOn I)

instance blk_storable (M : Memref sig .tc sp s e) (c : Dev nD) (I : Finset s.Idx) (X : s.Idx → Elt F e) :
    BI.Storable (upEmb : UEmb _ (MM F)) (blk M c I X) := by unfold blk; infer_instance
instance anyBlk_storable (M : Memref sig .tc sp s e) (c : Dev nD) (I : Finset s.Idx) :
    BI.Storable (upEmb : UEmb _ (MM F)) (anyBlk (F := F) M c I) := by unfold anyBlk; infer_instance

variable {M : Memref sig .tc sp s e} {c : Dev nD} {I J : Finset s.Idx} {X Y : s.Idx → Elt F e}

/-- Contents matter on the elements held only. -/
theorem blk_congr (h : ∀ i ∈ I, X i = Y i) : blk M c I X ⊢ blk M c I Y := by
  unfold blk
  iintro ⟨%f, %hf, H⟩
  iexists f
  isplitr
  · ipureintro; exact fun i hi => (hf i hi).trans (h i hi)
  iexact H

theorem blk_any : blk M c I X ⊢ anyBlk M c I := by
  unfold blk anyBlk Release.slot
  iintro ⟨%f, -, H⟩
  iexists f; iexact H

theorem any_blk : anyBlk (F := F) M c I ⊢ iprop(∃ X, blk M c I X) := by
  unfold blk anyBlk Release.slot
  iintro ⟨%f, H⟩
  iexists (M.view.read (Elt F) f), f
  isplitr
  · ipureintro; exact fun i hi => rfl
  iexact H

theorem setOn_disjoint (h : Disjoint I J) : Disjoint (M.view.setOn I) (M.view.setOn J) :=
  (Finset.disjoint_map _).mpr h

/-- Two disjoint parts. -/
theorem blk_split (h : Disjoint I J) : blk M c (I ∪ J) X ⊢ iprop(blk M c I X ∗ blk M c J X) := by
  unfold blk
  rw [show M.view.setOn (I ∪ J) = M.view.setOn I ∪ M.view.setOn J from Finset.map_union _ _]
  iintro ⟨%f, %hf, H⟩
  ihave H2 := (pointsTo_union (setOn_disjoint h)).1 $$ H
  icases H2 with ⟨H1, H2⟩
  isplitl [H1]
  · iexists f
    isplitr
    · ipureintro; exact fun i hi => hf i (Finset.mem_union_left _ hi)
    iexact H1
  · iexists f
    isplitr
    · ipureintro; exact fun i hi => hf i (Finset.mem_union_right _ hi)
    iexact H2

/-- Two disjoint parts make one. -/
theorem blk_join (h : Disjoint I J) : iprop(blk M c I X ∗ blk M c J X) ⊢ blk M c (I ∪ J) X := by
  unfold blk
  rw [show M.view.setOn (I ∪ J) = M.view.setOn I ∪ M.view.setOn J from Finset.map_union _ _]
  iintro ⟨⟨%f, %hf, H1⟩, ⟨%f', %hf', H2⟩⟩
  iexists ((M.view.setOn J).piecewise f' f)
  isplitr
  · ipureintro
    intro i hi
    rw [View.read_apply]
    rcases Finset.mem_union.mp hi with hi | hi
    · rw [Finset.piecewise_eq_of_notMem _ _ _ (fun hm => Finset.disjoint_left.mp h hi (M.view.mem_setOn.mp hm))]
      exact hf i hi
    · rw [Finset.piecewise_eq_of_mem _ _ _ (M.view.mem_setOn.mpr hi)]
      exact hf' i hi
  iapply (pointsTo_join (setOn_disjoint h))
  isplitl [H1] <;> iassumption

theorem any_split (h : Disjoint I J) : anyBlk (F := F) M c (I ∪ J) ⊢ iprop(anyBlk M c I ∗ anyBlk M c J) := by
  refine any_blk.trans ?_
  iintro ⟨%X, H⟩
  ihave H2 := (blk_split h) $$ H
  icases H2 with ⟨H1, H2⟩
  isplitl [H1]
  · iapply blk_any; iexact H1
  · iapply blk_any; iexact H2

theorem any_join (h : Disjoint I J) : iprop(anyBlk (F := F) M c I ∗ anyBlk M c J) ⊢ anyBlk M c (I ∪ J) := by
  unfold anyBlk Release.slot
  rw [show M.view.setOn (I ∪ J) = M.view.setOn I ∪ M.view.setOn J from Finset.map_union _ _]
  iintro ⟨⟨%f, H1⟩, ⟨%f', H2⟩⟩
  iexists ((M.view.setOn J).piecewise f' f)
  iapply (pointsTo_join (setOn_disjoint h))
  isplitl [H1] <;> iassumption

/-- A load inside what is held. -/
theorem blk_load {cs : CoreSpace} {M : Memref sig .tc cs s e} {X : s.Idx → Elt F e} {r : Rect s} {hl : M.view.LoadsAt r.toLoadRect} (hr : r.set ⊆ I) {α : Type}
    {k : (r.shape.Idx → Elt F e) → P (F := F) α} {Q : α → sProp (MM F)} :
    blk M c I X ⊢ iprop((blk M c I X -∗ wpK c (k fun j => X (r.emb j)) Q) -∗ wpK c (.op (.load M r.toLoadRect hl) k) Q) := by
  unfold blk
  iintro ⟨%f, %hf, H⟩ Hk
  iapply (wp_load 𝒱₀ (c : Thread nD τ) none Set.univ (m := M) (r := r.toLoadRect) (f := f) (S := M.view.setOn I)
    (Finset.map_subset_map.mpr (by simpa using hr))) $$ H
  iintro H
  have he : M.view.readAt (Elt F) r.toLoadRect f = fun j => X (r.emb j) := by
    funext j
    rw [View.readAt_rect]
    exact hf _ (hr (r.idx_mem j))
  rw [he]
  iapply Hk
  iexists f
  isplitr
  · ipureintro; exact hf
  iexact H

/-- A store inside what is held. -/
theorem blk_store {cs : CoreSpace} {M : Memref sig .tc cs s e} {X : s.Idx → Elt F e} {r : Rect s} {w : r.shape.Idx → Elt F e} {hx : (M.access r).Stores Finset.univ}
    {hm : (Finset.univ : Finset r.shape.Idx) = Finset.univ ∨ ∀ a, r.stride a = 1} (hr : r.set ⊆ I) (Y : s.Idx → Elt F e)
    (h1 : ∀ j, Y (r.emb j) = w j) (h2 : ∀ i ∈ I, i ∉ r.set → Y i = X i) {α : Type}
    {k : PUnit → P (F := F) α} {Q : α → sProp (MM F)} :
    blk M c I X ⊢ iprop((blk M c I Y -∗ wpK c (k ⟨⟩) Q) -∗ wpK c (.op (.store M r w Finset.univ hx hm) k) Q) := by
  unfold blk
  iintro ⟨%f, %hf, H⟩ Hk
  iapply (wp_store 𝒱₀ (c : Thread nD τ) none Set.univ (m := M) (r := r) (w := w) (f := f) (S := M.view.setOn I)
    (by rw [View.setOn_univ]; unfold Memref.access; rw [View.set_slice]; exact Finset.map_subset_map.mpr hr)) $$ H
  iintro H
  iapply Hk
  iexists ((M.access r).write (Elt F) f w Finset.univ)
  isplitr
  · ipureintro
    intro i hi
    by_cases hir : i ∈ r.set
    · obtain ⟨j, -, rfl⟩ := Finset.mem_map.mp (r.map_emb_univ.symm ▸ hir)
      rw [h1]
      have h := View.read_write_of_mem (v := M.access r) (Val := Elt F) f w (M := Finset.univ) (x := j) (Finset.mem_univ _)
      exact h
    · rw [h2 i hi hir, ← hf i hi, View.read_apply, View.read_apply]
      congr 1
      refine View.write_of_not_mem (v := M.access r) f w Finset.univ ?_
      rw [View.setOn_univ]; unfold Memref.access; rw [View.set_slice]
      exact fun hmem => hir (by
        obtain ⟨j, hj, he⟩ := Finset.mem_map.mp hmem
        exact M.view.emb.injective he ▸ hj)
  iexact H

/-! ## What a transfer leaves -/

/-- What a slice written whole holds, read through its buffer. -/
theorem written_slice (M : Memref sig .tc sp s e) (r : Rect s) {w : r.shape.Idx → Elt F e} {Y : s.Idx → Elt F e} {fd : M.view.ty.Contents (Elt F)}
    (h : ∀ j, w j = Y (r.emb j)) : ∀ i ∈ r.set, M.view.read (Elt F) ((M.view.slice r).write (Elt F) fd w Finset.univ) i = Y i := by
  intro i hi
  obtain ⟨j, -, rfl⟩ := Finset.mem_map.mp (r.map_emb_univ.symm ▸ hi)
  exact (View.read_write_of_mem (v := M.view.slice r) (Val := Elt F) fd w (M := Finset.univ) (x := j) (Finset.mem_univ _)).trans (h j)

/-- The same through the slice's reshape. -/
theorem written_reshape (M : Memref sig .tc sp s e) (r : Rect s) {s' : Shape} (hn : s'.numel = r.shape.numel) {w : s'.Idx → Elt F e} {Y : s.Idx → Elt F e}
    {fd : M.view.ty.Contents (Elt F)} (h : ∀ j, w j = Y (r.emb (Shape.reshapeEquiv hn j))) :
    ∀ i ∈ r.set, M.view.read (Elt F) (((M.view.slice r).reshape s' hn).write (Elt F) fd w Finset.univ) i = Y i := by
  intro i hi
  obtain ⟨j, -, rfl⟩ := Finset.mem_map.mp (r.map_emb_univ.symm ▸ hi)
  obtain ⟨x, rfl⟩ := (Shape.reshapeEquiv hn).surjective j
  exact (View.read_write_of_mem (v := (M.view.slice r).reshape s' hn) (Val := Elt F) fd w (M := Finset.univ) (x := x) (Finset.mem_univ _)).trans (h x)

end Blk

end Cert.K

end
-- ==== Proof.Contents.lean ====
/-
# What the buffers hold

The ring's contents as functions of the two operands on every device: `PP g n c`, the partial product device `c` computes for
ring `g` before hop `n` (of the row block `n + 1` devices behind it on that ring); `XX g h c`, what device `c` sends at hop `h`;
`ZZ g c`, what device `c` ends with in ring `g`'s half of the columns. The kernel's arithmetic is read element by element.
-/
module

public import proofs.«01_k».proof.Proof.Prog
public import Idealize.ShloMosaic.Lib.ValueLayout
public import Idealize.ShloMosaic.Lib.ValueIdxCore

@[expose] public section

noncomputable section

namespace Cert.K

open Cert.KernelIdeal Cert.KernelIdeal.Gen
open Idealize.ShloMosaic Idealize.ShloMosaic.TcCoe Idealize.ShloMosaic.ValueIdx

variable {F : FTy → Type} [FloatOps F]

/-! ## The ring -/

/-- The device that ring `g` sends to: the right neighbour for `false`, the left one for `true`. -/
def nxt (g : Bool) (c : Dev nD) : Dev nD := ⟨(c.val + (bif g then 3 else 1)) % 4, Nat.mod_lt _ (by decide)⟩
/-- The device that ring `g` receives from. -/
abbrev prv (g : Bool) (c : Dev nD) : Dev nD := nxt (!g) c
theorem nxt_prv (g : Bool) (c : Dev nD) : nxt g (prv g c) = c := by revert g c; decide
theorem prv_nxt (g : Bool) (c : Dev nD) : prv g (nxt g c) = c := by revert g c; decide
theorem prv_not (g : Bool) (c : Dev nD) : prv (!g) c = nxt g c := by cases g <;> rfl

/-- The ring as a permutation of the devices. -/
def ring (g : Bool) : Dev nD ≃ Dev nD := ⟨nxt g, prv g, prv_nxt g, nxt_prv g⟩

/-- The row block of the partial product before hop `n`: `n + 1` devices behind. -/
def behind (g : Bool) (n : ℕ) (c : Dev nD) : Dev nD := (prv g)^[n + 1] c

/-- Where a row block starts in the left operand. -/
abbrev offC (k : Dev nD) : Fin 3 → ℕ := ![0, 512 * k.val, 0]
theorem inbOff : ∀ (k : Dev nD) (a : Fin 3), offC k a + S2x512x1024.size a ≤ S2x2048x1024.size a := by decide
/-- A row block of the left operand. -/
abbrev rK (k : Dev nD) : Rect S2x2048x1024 := Rect.unit (s := S2x2048x1024) (offC k) S2x512x1024.size (inbOff k)

/-! ## The arithmetic, at one element -/

/-- The cast of a partial sum to the format it travels in. -/
def castE (x : F .f32) : F .bf16 := FloatOps.truncf .bf16 bitsLt_bf16_f32 x
/-- What came in, and this device's partial product. -/
def finE (x : F .bf16) (y : F .f32) : F .f32 := FloatOps.addf (FloatOps.extf .f32 bitsLt_bf16_f32 x) y

theorem pay7_apply (a : Vec F S1x512x2048 .f32) (j : S1x1x512x2048.Idx) :
    k0_pay7 a j = castE (a (ix3 (0 : Fin 1) (j 2) (j 3))) := by
  show castE (a (Shape.reshapeEquiv _ (Shape.reshapeEquiv _ j))) = _
  rw [Shape.reshapeEquiv_reshapeEquiv]
  congr 2
  refine Shape.reshapeEquiv_eq_of_rowMajor _ ?_
  rw [Shape.rowMajor_val_four, Shape.rowMajor_val_three]
  have h0 : (j 0).val < 1 := (j 0).isLt
  have h1 : (j 1).val < 1 := (j 1).isLt
  simp only [Shape.size]
  show (0 * 512 + (j 2).val) * 2048 + (j 3).val = (((j 0).val * 1 + (j 1).val) * 512 + (j 2).val) * 2048 + (j 3).val
  omega

theorem pay16_apply (x : Vec F S1x1x256x2048 .bf16) (y : Vec F S1x256x2048 .f32) (j : S1x1x256x2048.Idx) :
    k0_pay16 x y j = castE (finE (x j) (y (ix3 (0 : Fin 1) (j 2) (j 3)))) := by
  show castE (finE (x (Shape.reshapeEquiv _ (Shape.reshapeEquiv _ j))) (y (Shape.reshapeEquiv _ (Shape.reshapeEquiv _ j)))) = _
  rw [Shape.reshapeEquiv_reshapeEquiv, Shape.reshapeEquiv_reshapeEquiv, Shape.reshapeEquiv_self]
  congr 3
  refine Shape.reshapeEquiv_eq_of_rowMajor _ ?_
  rw [Shape.rowMajor_val_four, Shape.rowMajor_val_three]
  have h0 : (j 0).val < 1 := (j 0).isLt
  have h1 : (j 1).val < 1 := (j 1).isLt
  show (0 * 256 + (j 2).val) * 2048 + (j 3).val = (((j 0).val * 1 + (j 1).val) * 256 + (j 2).val) * 2048 + (j 3).val
  omega

theorem pay46_apply (x : Vec F S1x1x256x2048 .bf16) (y : Vec F S1x256x2048 .f32) (j : S1x256x2048.Idx) :
    k0_pay46 x y j = finE (x (ix4 (0 : Fin 1) (0 : Fin 1) (j 1) (j 2))) (y j) := by
  show finE (x (Shape.reshapeEquiv _ (Shape.reshapeEquiv _ j))) (y (Shape.reshapeEquiv _ (Shape.reshapeEquiv _ j))) = _
  rw [Shape.reshapeEquiv_reshapeEquiv, Shape.reshapeEquiv_reshapeEquiv, Shape.reshapeEquiv_self]
  congr 2
  refine Shape.reshapeEquiv_eq_of_rowMajor _ ?_
  rw [Shape.rowMajor_val_four, Shape.rowMajor_val_three]
  have h0 : (j 0).val < 1 := (j 0).isLt
  show ((0 * 1 + 0) * 256 + (j 1).val) * 2048 + (j 2).val = ((j 0).val * 256 + (j 1).val) * 2048 + (j 2).val
  omega

/-! ## The contents -/

/-- The left operand's rows and the (cast) weights on every device. -/
structure Ops (F : FTy → Type) where
  /-- The left operand. -/
  o : Dev nD → S2x2048x1024.Idx → F .f32
  /-- The weights. -/
  w : Dev nD → S1024x4096.Idx → F .bf16

variable (A : Ops F)

/-- The chunk of the left operand staged for the partial product before hop `n`. -/
def chunk (g : Bool) (n : ℕ) (c : Dev nD) : S2x512x1024.Idx → F .f32 := fun j => A.o c ((rK (behind g n c)).emb j)

/-- The partial product before hop `n`. -/
def PP (g : Bool) (n : ℕ) (c : Dev nD) : S2x512x2048.Idx → F .f32 := fun i =>
  k0_pay3 (fun j => chunk A g n c ((rS (i 0)).emb j)) (fun j => A.w c ((rW g).emb j)) (ix3 (0 : Fin 1) (i 1) (i 2))

/-- What is sent at hop `h`. -/
def XX (g : Bool) : ℕ → Dev nD → S2x512x2048.Idx → F .bf16
  | 0, c => fun i => castE (PP A g 0 c i)
  | h + 1, c => fun i => castE (finE (XX g h (prv g c) i) (PP A g (h + 1) c i))

/-- What the device ends with. -/
def ZZ (g : Bool) (c : Dev nD) : S2x512x2048.Idx → F .f32 := fun i => finE (XX A g 2 (prv g c) i) (PP A g 3 c i)

/-- A slot's contents, whichever slot. -/
def lift {α : Type} (X : S2x512x2048.Idx → α) : S2x2x512x2048.Idx → α := fun i => X (ix3 (i 1) (i 2) (i 3))

/-- The result's block of the device: the two rings' halves of the columns. -/
def outV (c : Dev nD) : S2x512x4096.Idx → F .f32 := fun i =>
  if h : (i 2).val < 2048 then ZZ A false c (ix3 (i 0) (i 1) ⟨(i 2).val, h⟩)
  else ZZ A true c (ix3 (i 0) (i 1) ⟨(i 2).val - 2048, by have := (i 2).isLt; have h2 : S2x512x4096.size 2 = 4096 := rfl; omega⟩)

/-! ## Reading the contents at the kernel's rectangles -/

theorem PP_row (g : Bool) (n : ℕ) (c : Dev nD) (b : Fin 2) (j : (rP b).shape.Idx) :
    PP A g n c ((rP b).emb j) = k0_pay3 (fun j => chunk A g n c ((rS b).emb j)) (fun j => A.w c ((rW g).emb j)) j := by
  have h0 : (j 0).val < 1 := (j 0).isLt
  have e0 : (rP b).emb j 0 = b := Fin.ext (show b.val + 1 * (j 0).val = b.val by omega)
  have e1 : (ix3 (0 : Fin 1) ((rP b).emb j 1) ((rP b).emb j 2) : S1x512x2048.Idx) = j := by
    funext a
    match a with
    | ⟨0, _⟩ => exact Fin.ext (show 0 = (j 0).val by omega)
    | ⟨1, _⟩ => exact Fin.ext (show 0 + 1 * (j 1).val = (j 1).val by omega)
    | ⟨2, _⟩ => exact Fin.ext (show 0 + 1 * (j 2).val = (j 2).val by omega)
  unfold PP
  rw [e0]
  exact congrArg _ e1

/-- An element of slot `s` is the same element of slot `r`. -/
theorem lift_slot {α : Type} (X : S2x512x2048.Idx → α) (s r q : Fin 2) (y : S1x2x256x2048.Idx) : lift X ((rC s q).emb y) = lift X ((rC r q).emb y) := by
  unfold lift
  rfl

theorem lift_cast0 {α : Type} (X : S2x512x2048.Idx → α) (b : Fin 2) (j : S1x1x512x2048.Idx) :
    lift X ((rC0 b).emb j) = X ((rP b).emb (ix3 (0 : Fin 1) (j 2) (j 3))) := by
  have h1 : (j 1).val < 1 := (j 1).isLt
  unfold lift
  congr 1
  funext a
  match a with
  | ⟨0, _⟩ => exact Fin.ext (show b.val + 1 * (j 1).val = b.val + 1 * 0 by omega)
  | ⟨1, _⟩ => rfl
  | ⟨2, _⟩ => rfl

theorem lift_row {α : Type} (X : S2x512x2048.Idx → α) (r b q : Fin 2) (j : S1x1x256x2048.Idx) :
    lift X ((rCb r b q).emb j) = X ((rPq b q).emb (ix3 (0 : Fin 1) (j 2) (j 3))) := by
  have h1 : (j 1).val < 1 := (j 1).isLt
  unfold lift
  congr 1
  funext a
  match a with
  | ⟨0, _⟩ => exact Fin.ext (show b.val + 1 * (j 1).val = b.val + 1 * 0 by omega)
  | ⟨1, _⟩ => rfl
  | ⟨2, _⟩ => rfl

theorem lift_row' {α : Type} (X : S2x512x2048.Idx → α) (r b q : Fin 2) (j : S1x256x2048.Idx) :
    lift X ((rCb r b q).emb (ix4 (0 : Fin 1) (0 : Fin 1) (j 1) (j 2))) = X ((rPq b q).emb j) := by
  have h1 : (j 0).val < 1 := (j 0).isLt
  rw [lift_row]
  congr 2
  funext a
  match a with
  | ⟨0, _⟩ => exact Fin.ext (show 0 = (j 0).val by omega)
  | ⟨1, _⟩ => rfl
  | ⟨2, _⟩ => rfl

theorem outV_half (c : Dev nD) (q : Fin 2) (g : Bool) (j : S2x256x2048.Idx) : outV A c ((rO q g).emb j) = ZZ A g c ((rPh q).emb j) := by
  have h2 : (j 2).val < 2048 := (j 2).isLt
  have e : ((rO q g).emb j 2).val = 2048 * g.toNat + 1 * (j 2).val := rfl
  have e2 : ((rPh q).emb j 2).val = (j 2).val := (show 0 + 1 * (j 2).val = (j 2).val by omega)
  unfold outV
  cases g
  · have e' : ((rO q false).emb j 2).val = (j 2).val := by rw [e]; simp
    rw [dif_pos (by rw [e']; exact h2)]
    congr 1
    funext a
    match a with
    | ⟨0, _⟩ => rfl
    | ⟨1, _⟩ => rfl
    | ⟨2, _⟩ => exact Fin.ext (e'.trans e2.symm)
  · have e' : ((rO q true).emb j 2).val = 2048 + (j 2).val := by rw [e]; simp
    rw [dif_neg (by rw [e']; omega)]
    congr 1
    funext a
    match a with
    | ⟨0, _⟩ => rfl
    | ⟨1, _⟩ => rfl
    | ⟨2, _⟩ => exact Fin.ext ((congrArg (· - 2048) e').trans ((Nat.add_sub_cancel_left _ _).trans e2.symm))

end Cert.K

end
-- ==== Proof.Protocol.lean ====
/-
# The protocol

Every semaphore of the kernel is a cell with a schedule of rounds. The entry handshake's cell gets a unit from each
neighbour; with it comes the slot the neighbour is to be sent into at the first hop. A transfer's send cell gives the source
back; its receive cell gives the slot back at what landed. A credit cell gets two units after each of the first two hops,
from the device that is sent to; the units may be taken before or after one another, so each carries a lasting fact: which of
the receiver's slots have been released. A released slot itself waits in an invariant, where the one who may write it takes it.
-/
module

public import proofs.«01_k».proof.Proof.Mem
public import proofs.«01_k».proof.Proof.Contents
public import Idealize.ShloMosaic.Lib.Pipeline.TalkSites

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

/-! ## The cells -/

/-- What a semaphore is for. -/
inductive Role
  | bar
  | credit (g : Bool)
  | load
  | store (q : Fin 2) (g : Bool)
  | send (g : Bool) (h : Fin 3) (q : Fin 2)
  | recv (g : Bool) (h : Fin 3) (q : Fin 2)
  deriving DecidableEq

/-- The semaphore. -/
def Role.loc : Role → SemLoc sig
  | .bar => .reg barS
  | .credit g => .reg (credS g)
  | .load => .dma loadS
  | .store q g => .dma (storeS q g)
  | .send g h q => .dma (sendS g h q)
  | .recv g h q => .dma (recvS g h q)

/-- The number of the semaphore in its pool, the regular ones after the others. -/
def Role.num : Role → ℕ
  | .bar => 102
  | .credit g => 100 + g.toNat
  | .load => 1
  | .store q g => 2 + 2 * q.val + g.toNat
  | .send g h q => 6 + 12 * g.toNat + 2 * h.val + q.val
  | .recv g h q => 12 + 12 * g.toNat + 2 * h.val + q.val

/-- The same number read off a semaphore. -/
def locNum : SemLoc sig → ℕ
  | .reg s => 100 + s.val
  | .dma s => s.val

theorem locNum_loc (ρ : Role) : locNum ρ.loc = ρ.num := by
  rcases ρ with _ | g | _ | ⟨q, g⟩ | ⟨g, h, q⟩ | ⟨g, h, q⟩
  · rfl
  · cases g <;> rfl
  · rfl
  · revert q g; decide
  · revert g h q; decide
  · revert g h q; decide

theorem toNat_inj {g g' : Bool} (h : g.toNat = g'.toNat) : g = g' := by cases g <;> cases g' <;> first | rfl | exact absurd h (by decide)

theorem num_inj : Function.Injective Role.num := by
  intro a b h
  rcases a with _ | g | _ | ⟨q, g⟩ | ⟨g, n, q⟩ | ⟨g, n, q⟩ <;> rcases b with _ | g' | _ | ⟨q', g'⟩ | ⟨g', n', q'⟩ | ⟨g', n', q'⟩ <;>
    (try have hg : g.toNat ≤ 1 := Bool.toNat_le g) <;> (try have hg' : g'.toNat ≤ 1 := Bool.toNat_le g') <;> simp only [Role.num] at h <;>
    first
    | rfl
    | (exfalso; omega)
    | skip
  · exact congrArg _ (toNat_inj (by omega))
  · obtain rfl := toNat_inj (show g.toNat = g'.toNat by omega)
    obtain rfl : q = q' := Fin.ext (by omega)
    rfl
  · obtain rfl := toNat_inj (show g.toNat = g'.toNat by omega)
    obtain rfl : q = q' := Fin.ext (by omega)
    obtain rfl : n = n' := Fin.ext (by omega)
    rfl
  · obtain rfl := toNat_inj (show g.toNat = g'.toNat by omega)
    obtain rfl : q = q' := Fin.ext (by omega)
    obtain rfl : n = n' := Fin.ext (by omega)
    rfl

theorem loc_inj : Function.Injective Role.loc := fun a b h => num_inj (by rw [← locNum_loc, ← locNum_loc, h])

/-- The purpose of a semaphore, if the protocol names it. -/
def roleOf : SemLoc sig → Option Role := Function.partialInv Role.loc
theorem roleOf_loc (ρ : Role) : roleOf ρ.loc = some ρ := Function.partialInv_left loc_inj ρ

/-- Device `c`'s cell of that purpose. -/
abbrev cell (ρ : Role) (c : Dev nD) : GSem nD τ sig := ((c : Thread nD τ), ρ.loc)

/-! ## Slots -/

/-- The slot a hop sends from. -/
abbrev sl : Fin 3 → Fin 2 | 0 => 0 | 1 => 1 | 2 => 0
/-- The slot a hop sends into. -/
abbrev dl : Fin 3 → Fin 2 | 0 => 1 | 1 => 0 | 2 => 1

/-- The elements of a slot: its two sub-blocks. -/
def slotSet (s : Fin 2) : Finset S2x2x512x2048.Idx := (rC s 0).set ∪ (rC s 1).set
/-- A slot of a ring's buffer on device `c`, at contents not named. -/
abbrev anySlot (g : Bool) (c : Dev nD) (s : Fin 2) : sProp (MM F) := anyBlk (cM g) c (slotSet s)

theorem rC_disjoint (s : Fin 2) : Disjoint (rC s 0).set (rC s 1).set := Rect.unit_disjoint (a := (2 : Fin 4)) (.inl (by show 256 * 0 + 256 ≤ 256 * 1; omega))

/-! ## Amounts -/

/-- The units of one transfer of a sub-block. -/
@[irreducible] def NB : ℕ := (blkM false 0 0).view.dmaCredit
theorem blkM_credit (g : Bool) (s q : Fin 2) : (blkM g s q).view.dmaCredit = NB := by unfold NB; cases g <;> rfl
/-- The units of one load of a chunk. -/
@[irreducible] def NL : ℕ := stM.view.dmaCredit
theorem st_credit : stM.view.dmaCredit = NL := by unfold NL; rfl
/-- The units of one store to the result. -/
@[irreducible] def NS : ℕ := (outM.slice (rO 0 false) (fun _ => rfl)).view.dmaCredit
theorem out_credit (q : Fin 2) (g : Bool) : (outM.slice (rO q g) (fun _ => rfl)).view.dmaCredit = NS := by unfold NS; rfl
theorem NB_pos : 0 < NB := by unfold NB; exact View.dmaCredit_pos _ (by decide)
theorem NL_pos : 0 < NL := by unfold NL; exact View.dmaCredit_pos _ (by decide)
theorem NS_pos : 0 < NS := by unfold NS; exact View.dmaCredit_pos _ (by decide)

/-! ## The schedule -/

variable (A : Ops F)

/-- With a unit of the handshake from ring `g`'s next device: its slot 1 of that ring, and that its cells stand at their start. -/
def barPay (c : Dev nD) (g : Bool) : sProp (MM F) :=
  iprop(anySlot g (nxt g c) 1
    ∗ (bigSep (Finset.univ : Finset (Fin 3 × Fin 2)) fun x => reached ER (cell (.recv g x.1 x.2) (nxt g c)) 0)
    ∗ reached ER (cell (.credit (!g)) (nxt g c)) 0)

/-- With a credit: which slots of the next device are released. -/
def credPay (c : Dev nD) (g : Bool) (d : Fin 4) : sProp (MM F) :=
  if d.val < 2 then Release.released ES ((nxt g c, g, 0) : Key) 1
  else iprop(Release.released ES ((nxt g c, g, 0) : Key) 1 ∗ Release.released ES ((nxt g c, g, 1) : Key) 1)

/-- The ring of the `r`-th load. -/
abbrev ldRing (r : ℕ) : Bool := r % 2 == 1

/-- With a chunk's load: the chunk, and the rows of the left operand back. -/
def loadPay (c : Dev nD) (r : ℕ) : sProp (MM F) :=
  iprop(blk stM c Finset.univ (chunk A (ldRing r) (r / 2) c) ∗ blk oM c (rK (behind (ldRing r) (r / 2) c)).set (A.o c))

/-- With a store to the result: the result's block, and the buffer back. -/
def storePay (c : Dev nD) (q : Fin 2) (g : Bool) : sProp (MM F) :=
  iprop(blk outM c (rO q g).set (outV A c) ∗ anyBlk (pM g) c (rPh q).set)

/-- With a transfer out: its source. -/
def sendPay (c : Dev nD) (g : Bool) (h : Fin 3) (q : Fin 2) : sProp (MM F) := blk (cM g) c (rC (sl h) q).set (lift (XX A g h.val c))
/-- With a transfer in: what landed. -/
def recvPay (c : Dev nD) (g : Bool) (h : Fin 3) (q : Fin 2) : sProp (MM F) := blk (cM g) c (rC (dl h) q).set (lift (XX A g h.val (prv g c)))

/-- The duties of a round. -/
def dutiesR : Role → ℕ → Finset (Fin 4)
  | .bar, 0 => {0, 1}
  | .credit _, 0 => {0, 1, 2, 3}
  | .load, r => if r < 8 then {0} else ∅
  | .store .., 0 => {0}
  | .send .., 0 => {0}
  | .recv .., 0 => {0}
  | _, _ => ∅

/-- The units of a duty. -/
def amountR : Role → ℕ
  | .bar => 1
  | .credit _ => 1
  | .load => NL
  | .store .. => NS
  | .send .. => NB
  | .recv .. => NB

theorem amountR_pos : ∀ ρ, 0 < amountR ρ
  | .bar => Nat.one_pos
  | .credit _ => Nat.one_pos
  | .load => NL_pos
  | .store .. => NS_pos
  | .send .. => NB_pos
  | .recv .. => NB_pos

/-- What a duty's units hand over. -/
def payR (c : Dev nD) : Role → ℕ → Fin 4 → sProp (MM F)
  | .bar, _, d => barPay c (d.val == 1)
  | .credit g, _, d => credPay c g d
  | .load, r, _ => loadPay A c r
  | .store q g, _, _ => storePay A c q g
  | .send g h q, _, _ => sendPay A c g h q
  | .recv g h q, _, _ => recvPay A c g h q

/-- The schedule. -/
def Rd : Schedule (GSem nD τ sig) (Fin 4) (MM F) where
  duties g r := match g.1.2, roleOf g.2 with
    | .tc, some ρ => dutiesR ρ r
    | _, _ => ∅
  amount g _ _ := match roleOf g.2 with
    | some ρ => amountR ρ
    | none => 1
  payload g r d := match roleOf g.2 with
    | some ρ => payR A g.1.1 ρ r d
    | none => iprop(emp)
  amount_pos g _ _ _ := by
    split
    · exact amountR_pos _
    · exact Nat.one_pos

instance payR_storable (c : Dev nD) (ρ : Role) (r : ℕ) (d : Fin 4) : BI.Storable (upEmb : UEmb _ (MM F)) (payR A c ρ r d) := by
  cases ρ with
  | bar => show BI.Storable _ (barPay c (d.val == 1)); unfold barPay; infer_instance
  | credit g => show BI.Storable _ (credPay c g d); unfold credPay; by_cases h : d.val < 2 <;> simp only [h, if_true, if_false] <;> infer_instance
  | load => show BI.Storable _ (loadPay A c r); unfold loadPay; infer_instance
  | store q g => show BI.Storable _ (storePay A c q g); unfold storePay; infer_instance
  | send g h q => show BI.Storable _ (sendPay A c g h q); unfold sendPay; infer_instance
  | recv g h q => show BI.Storable _ (recvPay A c g h q); unfold recvPay; infer_instance

instance Rd_storable (g : GSem nD τ sig) (r : ℕ) (d : Fin 4) : BI.Storable (upEmb : UEmb _ (MM F)) ((Rd A).payload g r d) := by
  show BI.Storable upEmb (match roleOf g.2 with
    | some ρ => payR A g.1.1 ρ r d
    | none => iprop(emp))
  split <;> infer_instance

section Tables

variable (c : Dev nD) (ρ : Role) (r : ℕ) (d : Fin 4)

theorem Rd_duties : (Rd A).duties (cell ρ c) r = dutiesR ρ r := by
  show (match (c : Thread nD τ).2, roleOf ρ.loc with
    | .tc, some ρ => dutiesR ρ r
    | _, _ => ∅) = _
  rw [roleOf_loc]
theorem Rd_amount : (Rd A).amount (cell ρ c) r d = amountR ρ := by
  show (match roleOf ρ.loc with
    | some ρ => amountR ρ
    | none => 1) = _
  rw [roleOf_loc]
theorem Rd_payload : (Rd A).payload (cell ρ c) r d = payR A c ρ r d := by
  show (match roleOf ρ.loc with
    | some ρ => payR A c ρ r d
    | none => iprop(emp)) = _
  rw [roleOf_loc]
theorem Rd_expect : (Rd A).expect (cell ρ c) r = (dutiesR ρ r).card * amountR ρ := by
  unfold Schedule.expect Schedule.amountOf
  rw [Rd_duties, Finset.sum_congr rfl (fun d _ => Rd_amount A c ρ r d), Finset.sum_const, smul_eq_mul]

/-- The rounds after a cell's last have no duties. -/
theorem Rd_later (hρ : ρ ≠ .load) : ∀ r, 1 ≤ r → (Rd A).duties (cell ρ c) r = ∅ := fun r hr => by
  rw [Rd_duties]
  obtain ⟨n, rfl⟩ : ∃ n, r = n + 1 := ⟨r - 1, by omega⟩
  cases ρ <;> first | rfl | exact absurd rfl hρ
theorem Rd_later_load : ∀ r, 8 ≤ r → (Rd A).duties (cell .load c) r = ∅ := fun r hr => by
  rw [Rd_duties]; exact if_neg (by omega)

/-- The payloads of a whole round of one duty. -/
theorem rest_one (h : dutiesR ρ r = {0}) : bigSep ((Rd A).duties (cell ρ c) r \ ∅) (fun d => (Rd A).payload (cell ρ c) r d) = payR A c ρ r 0 := by
  rw [Finset.sdiff_empty, Rd_duties, h, bigSep_singleton, Rd_payload]

end Tables

/-! ## What each device owes at the launch, and the levels -/

/-- The transfers of a hop, in the order they are begun. -/
def dueSends (h : Fin 3) (c : Dev nD) : List (Pay nD τ sig) :=
  [(cell (.recv false h 0) (nxt false c), 0, NB), (cell (.recv true h 0) (nxt true c), 0, NB),
   (cell (.recv false h 1) (nxt false c), 0, NB), (cell (.recv true h 1) (nxt true c), 0, NB)]
/-- The credits after a hop. -/
def dueCreds (i : ℕ) (c : Dev nD) : List (Pay nD τ sig) :=
  [(cell (.credit false) (prv false c), i, 2), (cell (.credit true) (prv true c), i, 2)]
/-- The handshake's units. -/
def dueBar (c : Dev nD) : List (Pay nD τ sig) := [(cell .bar (prv false c), 0, 1), (cell .bar (prv true c), 0, 1)]

/-- What is owed once the handshake is over, and after each stretch from there. -/
def due5 (c : Dev nD) : List (Pay nD τ sig) := dueSends 2 c
def due4 (c : Dev nD) : List (Pay nD τ sig) := dueCreds 1 c ++ due5 c
def due3 (c : Dev nD) : List (Pay nD τ sig) := dueSends 1 c ++ due4 c
def due2 (c : Dev nD) : List (Pay nD τ sig) := dueCreds 0 c ++ due3 c
def due1 (c : Dev nD) : List (Pay nD τ sig) := dueSends 0 c ++ due2 c
/-- What is owed at the launch. -/
def due0 (c : Dev nD) : List (Pay nD τ sig) := dueBar c ++ due1 c

/-- The level of a cell at an index. -/
def lvR : Role → ℕ → ℕ
  | .bar, _ => 1
  | .credit _, i => 2 + i
  | .recv _ h _, _ => 2 + h.val
  | _, _ => 0
/-- The levels. -/
def lv (g : GSem nD τ sig) (i : ℕ) : ℕ := match roleOf g.2 with
  | some ρ => lvR ρ i
  | none => 0
/-- The indices a cell is owed at. -/
def L (g : GSem nD τ sig) : Finset ℕ := if g.1.2 = .tc then {0, 1} else ∅

theorem L_of_ne (g : GSem nD τ sig) (h : g.1.2 ≠ .tc) : L g = ∅ := if_neg h
theorem L_tc (c : Dev nD) (sm : SemLoc sig) : L ((c : Thread nD τ), sm) = {0, 1} := if_pos rfl
theorem lv_cell (ρ : Role) (c : Dev nD) (i : ℕ) : lv (cell ρ c) i = lvR ρ i := by
  show (match roleOf ρ.loc with
    | some ρ => lvR ρ i
    | none => 0) = _
  rw [roleOf_loc]

/-- A payment of the protocol's: to a cell of a known purpose, at index 0 or 1, at a level above `b`. -/
def Over (b : ℕ) (x : Pay nD τ sig) : Prop := ∃ (ρ : Role) (d : Dev nD), x.1 = cell ρ d ∧ x.2.1 ≤ 1 ∧ b < lvR ρ x.2.1

theorem Over.mono {b b' : ℕ} (hb : b' ≤ b) {x : Pay nD τ sig} : Over b x → Over b' x
  | ⟨ρ, d, h1, h2, h3⟩ => ⟨ρ, d, h1, h2, by omega⟩

theorem over_sends (h : Fin 3) (c : Dev nD) : ∀ x ∈ dueSends h c, Over (1 + h.val) x := by
  intro x hx
  simp only [dueSends, List.mem_cons, List.not_mem_nil, or_false] at hx
  rcases hx with rfl | rfl | rfl | rfl <;> exact ⟨_, _, rfl, Nat.zero_le _, by simp only [lvR]; omega⟩
theorem over_creds (i : ℕ) (hi : i ≤ 1) (c : Dev nD) : ∀ x ∈ dueCreds i c, Over (1 + i) x := by
  intro x hx
  simp only [dueCreds, List.mem_cons, List.not_mem_nil, or_false] at hx
  rcases hx with rfl | rfl <;> exact ⟨_, _, rfl, hi, by simp only [lvR]; omega⟩
theorem over_bar (c : Dev nD) : ∀ x ∈ dueBar c, Over 0 x := by
  intro x hx
  simp only [dueBar, List.mem_cons, List.not_mem_nil, or_false] at hx
  rcases hx with rfl | rfl <;> exact ⟨_, _, rfl, Nat.zero_le _, by simp only [lvR]; omega⟩

theorem over_append {b : ℕ} {l l' : List (Pay nD τ sig)} (h : ∀ x ∈ l, Over b x) (h' : ∀ x ∈ l', Over b x) : ∀ x ∈ l ++ l', Over b x :=
  fun x hx => (List.mem_append.mp hx).elim (h x) (h' x)
theorem over_mono {b b' : ℕ} (hb : b' ≤ b) {l : List (Pay nD τ sig)} (h : ∀ x ∈ l, Over b x) : ∀ x ∈ l, Over b' x := fun x hx => (h x hx).mono hb

theorem over5 (c : Dev nD) : ∀ x ∈ due5 c, Over 3 x := over_sends 2 c
theorem over4 (c : Dev nD) : ∀ x ∈ due4 c, Over 2 x := over_append (over_creds 1 (Nat.le_refl _) c) (over_mono (by decide) (over5 c))
theorem over3 (c : Dev nD) : ∀ x ∈ due3 c, Over 2 x := over_append (over_sends 1 c) (over4 c)
theorem over2 (c : Dev nD) : ∀ x ∈ due2 c, Over 1 x := over_append (over_creds 0 (Nat.zero_le _) c) (over_mono (by decide) (over3 c))
theorem over1 (c : Dev nD) : ∀ x ∈ due1 c, Over 1 x := over_append (over_sends 0 c) (over2 c)
theorem over0 (c : Dev nD) : ∀ x ∈ due0 c, Over 0 x := over_append (over_bar c) (over_mono (by decide) (over1 c))

/-- A device may wait on a cell while all it owes lies at higher levels. -/
theorem mayWait (c : Dev nD) (ρ : Role) (i b : ℕ) (hi : i ≤ 1) (hb : lvR ρ i ≤ b) (l : List (Pay nD τ sig)) (hl : ∀ x ∈ l, Over b x) :
    (levAts L lv : sProp (MM F)) ⊢ MayWait (c : Thread nD τ) ρ.loc i (tallyL l) :=
  MayOwe.of_cut (L := L) (lev := lv) b
    (fun p hp => by
      rw [Finset.mem_singleton.mp hp, L_tc]
      interval_cases i <;> simp)
    (fun g u hg => by
      obtain ⟨x, hx, rfl, rfl⟩ := tallyL_pos hg
      obtain ⟨ρ', d, h1, h2, h3⟩ := hl x hx
      rw [h1, L_tc]
      generalize x.2.1 = k at h2
      interval_cases k <;> simp)
    (fun p hp => by rw [Finset.mem_singleton.mp hp]; exact (lv_cell ρ c i).trans_le hb)
    (fun g u hg => by
      obtain ⟨x, hx, rfl, rfl⟩ := tallyL_pos hg
      obtain ⟨ρ', d, h1, h2, h3⟩ := hl x hx
      rw [h1, lv_cell]; exact h3)

/-! ## A signal of two units, each a duty of its own -/

/-- A signal of two units pays two duties of one unit each. -/
theorem wp_signal2 (c dst : Dev nD) {sem : Sem sig} {r : ℕ} {d d' : Fin 4} {α : Type} {Q : α → sProp (MM F)}
    {k : PUnit → P (F := F) α} {κ : ℕ} (hd : d ∈ (Rd A).duties ((dst : Thread nD τ), .reg sem) r) (hd' : d' ∈ (Rd A).duties ((dst : Thread nD τ), .reg sem) r)
    (hk : (Rd A).amount ((dst : Thread nD τ), .reg sem) r d = 1) (hk' : (Rd A).amount ((dst : Thread nD τ), .reg sem) r d' = 1)
    (ι : ℕ) {O₀ : CellTallies nD τ sig ℕ} (O : CellTallies nD τ sig ℕ)
    (hO : O₀ = O + tallyAt ((dst : Thread nD τ), .reg sem) ι 2) {W : Waits sig ℕ} :
    iprop(cellInv ER (Rd A) κ ((dst : Thread nD τ), .reg sem) ∗ owes (c : Thread nD τ) O₀ W
        ∗ dutyTok ER ((dst : Thread nD τ), .reg sem) r d ∗ (Rd A).payload ((dst : Thread nD τ), .reg sem) r d
        ∗ dutyTok ER ((dst : Thread nD τ), .reg sem) r d' ∗ (Rd A).payload ((dst : Thread nD τ), .reg sem) r d'
        ∗ reached ER ((dst : Thread nD τ), .reg sem) r)
      ⊢ iprop((owes (c : Thread nD τ) O W -∗ wpK c (k ⟨⟩) Q)
          -∗ wpK c (.op (.semSignal (dst : Thread nD τ) sem 2) k) Q) := by
  iintro ⟨Hg, HL, Htok, Hpay, Htok', Hpay', #Hr⟩ Hk
  iapply (wp_semSignal 𝒱₀ (c : Thread nD τ) none Set.univ ι O hO (by routes)) $$ HL [Hg Htok Hpay Htok' Hpay']
  · rw [landingUpdate_def]
    iintro -
    iapply (raise_roundState ER (Rd A) (k := 2) (X := iprop((Rd A).payload ((dst : Thread nD τ), .reg sem) r d ∗ dutyTok ER ((dst : Thread nD τ), .reg sem) r d
          ∗ (Rd A).payload ((dst : Thread nD τ), .reg sem) r d' ∗ dutyTok ER ((dst : Thread nD τ), .reg sem) r d'
          ∗ reached ER ((dst : Thread nD τ), .reg sem) r)) (Y := iprop(emp))
        (by iintro ⟨Hcl, -, Htok, -, -, Hr⟩; iapply (closed_dutyTok_false ER (Rd A) hd)
            isplitl [Hcl]; · iexact Hcl
            isplitl [Htok] <;> iassumption)
        (by iintro ⟨Hdm, -, -, -, -, Hr⟩; iapply (dormant_reached_false ER (Rd A)); isplitl [Hdm] <;> iassumption) (fun v => by
      iintro ⟨Hst, Hpay, Htok, Hpay', Htok', #Hr⟩
      imod (roundState_land ER (Rd A) hd) $$ [Hst Htok Hpay] with Hst
      · isplitl [Hst]; · iexact Hst
        isplitl [Htok]; · iexact Htok
        isplitl [Hpay]; · iexact Hpay
        iexact Hr
      imod (roundState_land ER (Rd A) hd') $$ [Hst Htok' Hpay'] with Hst
      · isplitl [Hst]; · iexact Hst
        isplitl [Htok']; · iexact Htok'
        isplitl [Hpay']; · iexact Hpay'
        iexact Hr
      imodintro
      rw [hk, hk']
      isplitl [Hst]; · iexact Hst
      iempintro))
    isplitl [Hg]; · iexact Hg
    isplitl [Hpay]; · iexact Hpay
    isplitl [Htok]; · iexact Htok
    isplitl [Hpay']; · iexact Hpay'
    isplitl [Htok']; · iexact Htok'
    iexact Hr
  iexact Hk

end Cert.K

end
-- ==== Proof.Compute.lean ====
/-
# The arithmetic stretches

Each stretch between waits loads rows of the buffers it holds and stores rows back. A stretch is stated once, for either ring
and either batch row: what it holds before, and what it holds after.
-/
module

public import proofs.«01_k».proof.Proof.Protocol

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] (A : Ops F)

/-- The end of a stretch. -/
theorem ret_step {c : Dev nD} {α : Type} {a : α} {Q : α → sProp (MM F)} : Q a ⊢ wpK c (.ret a) Q := by
  show Q a ⊢ wp frame _ _ (Prog.ret a) Q
  rw [wp_ret]
  iintro H; imodintro; iexact H
/-- A stretch and what follows it. -/
theorem wpK_bind {c : Dev nD} {α β : Type} (p : P (F := F) α) (k : α → P (F := F) β) (Q : β → sProp (MM F)) :
    wpK c (p >>= k) Q = wpK c p fun a => wpK c (k a) Q := wp_bind _ _ _ p k Q

/-! ## Rows -/

/-- Contents with batch row `b` replaced. -/
def row3 {s : Shape} {α : Type} (a : Fin s.rank) (b : ℕ) (Z X : s.Idx → α) : s.Idx → α := fun i => if (i a).val = b then Z i else X i

theorem row3_eq {s : Shape} {α : Type} {a : Fin s.rank} {b : ℕ} {Z X : s.Idx → α} {i : s.Idx} (h : (i a).val = b) : row3 a b Z X i = Z i := if_pos h
theorem row3_ne {s : Shape} {α : Type} {a : Fin s.rank} {b : ℕ} {Z X : s.Idx → α} {i : s.Idx} (h : (i a).val ≠ b) : row3 a b Z X i = X i := if_neg h
/-- Both rows replaced is the whole replaced. -/
theorem row3_both {s : Shape} {α : Type} {a : Fin s.rank} (ha : s.size a = 2) {Z X : s.Idx → α} : row3 a 1 Z (row3 a 0 Z X) = Z := by
  funext i
  have h : (i a).val < 2 := (i a).isLt.trans_eq ha
  by_cases h1 : (i a).val = 1
  · exact row3_eq h1
  · rw [row3_ne h1, row3_eq (by omega)]

theorem row3_fin {s : Shape} {α : Type} {a : Fin s.rank} (ha : s.size a = 2) (Z X : s.Idx → α) :
    row3 a (1 : Fin 2).val Z (row3 a (0 : Fin 2).val Z X) = Z := row3_both ha

theorem rP_row (b : Fin 2) (j : (rP b).shape.Idx) : ((rP b).emb j 0).val = b.val := by
  have h0 : (j 0).val < 1 := (j 0).isLt
  show b.val + 1 * (j 0).val = b.val; omega
theorem rPq_row (b q : Fin 2) (j : (rPq b q).shape.Idx) : ((rPq b q).emb j 0).val = b.val := by
  have h0 : (j 0).val < 1 := (j 0).isLt
  show b.val + 1 * (j 0).val = b.val; omega
theorem rC0_row (b : Fin 2) (j : (rC0 b).shape.Idx) : ((rC0 b).emb j 1).val = b.val := by
  have h0 : (j 1).val < 1 := (j 1).isLt
  show b.val + 1 * (j 1).val = b.val; omega
theorem rCb_row (s b q : Fin 2) (j : (rCb s b q).shape.Idx) : ((rCb s b q).emb j 1).val = b.val := by
  have h0 : (j 1).val < 1 := (j 1).isLt
  show b.val + 1 * (j 1).val = b.val; omega

theorem rP_mem {b : Fin 2} {i : S2x512x2048.Idx} (h : (i 0).val = b.val) : i ∈ (rP b).set := by
  rw [Rect.mem_set_unit]
  have h1 : (i 1).val < 512 := (i 1).isLt
  have h2 : (i 2).val < 2048 := (i 2).isLt
  intro a
  match a with
  | ⟨0, _⟩ => exact ⟨h.ge, by show (i 0).val < b.val + 1; omega⟩
  | ⟨1, _⟩ => exact ⟨Nat.zero_le _, by show (i 1).val < 0 + 512; omega⟩
  | ⟨2, _⟩ => exact ⟨Nat.zero_le _, by show (i 2).val < 0 + 2048; omega⟩
theorem rPq_mem {b q : Fin 2} {i : S2x512x2048.Idx} (hi : i ∈ (rPh q).set) (h : (i 0).val = b.val) : i ∈ (rPq b q).set := by
  rw [Rect.mem_set_unit] at hi ⊢
  intro a
  match a with
  | ⟨0, _⟩ => exact ⟨h.ge, by show (i 0).val < b.val + 1; omega⟩
  | ⟨1, _⟩ => exact hi 1
  | ⟨2, _⟩ => exact hi 2
theorem rPq_sub (b q : Fin 2) : (rPq b q).set ⊆ (rPh q).set := by
  intro i hi
  rw [Rect.mem_set_unit] at hi ⊢
  have h0 : (i 0).val < 2 := (i 0).isLt
  intro a
  match a with
  | ⟨0, _⟩ => exact ⟨Nat.zero_le _, by show (i 0).val < 0 + 2; omega⟩
  | ⟨1, _⟩ => exact hi 1
  | ⟨2, _⟩ => exact hi 2
theorem rCb_mem {s b q : Fin 2} {i : S2x2x512x2048.Idx} (hi : i ∈ (rC s q).set) (h : (i 1).val = b.val) : i ∈ (rCb s b q).set := by
  rw [Rect.mem_set_unit] at hi ⊢
  intro a
  match a with
  | ⟨0, _⟩ => exact hi 0
  | ⟨1, _⟩ => exact ⟨h.ge, by show (i 1).val < b.val + 1; omega⟩
  | ⟨2, _⟩ => exact hi 2
  | ⟨3, _⟩ => exact hi 3
theorem rCb_sub (s b q : Fin 2) : (rCb s b q).set ⊆ (rC s q).set := by
  intro i hi
  rw [Rect.mem_set_unit] at hi ⊢
  have h0 : (i 1).val < 2 := (i 1).isLt
  intro a
  match a with
  | ⟨0, _⟩ => exact hi 0
  | ⟨1, _⟩ => exact ⟨Nat.zero_le _, by show (i 1).val < 0 + 2; omega⟩
  | ⟨2, _⟩ => exact hi 2
  | ⟨3, _⟩ => exact hi 3

/-- The elements of a slot are those at its number. -/
theorem mem_slot {s : Fin 2} {i : S2x2x512x2048.Idx} : i ∈ slotSet s ↔ (i 0).val = s.val := by
  unfold slotSet
  rw [Finset.mem_union, Rect.mem_set_unit, Rect.mem_set_unit]
  have h1 : (i 1).val < 2 := (i 1).isLt
  have h2 : (i 2).val < 512 := (i 2).isLt
  have h3 : (i 3).val < 2048 := (i 3).isLt
  constructor
  · rintro (h | h)
    · have h := h 0
      have ha : s.val ≤ (i 0).val := h.1
      have hb : (i 0).val < s.val + 1 := h.2
      omega
    · have h := h 0
      have ha : s.val ≤ (i 0).val := h.1
      have hb : (i 0).val < s.val + 1 := h.2
      omega
  · intro h
    by_cases hq : (i 2).val < 256
    · left
      intro a
      match a with
      | ⟨0, _⟩ => exact ⟨h.ge, by show (i 0).val < s.val + 1; omega⟩
      | ⟨1, _⟩ => exact ⟨Nat.zero_le _, by show (i 1).val < 0 + 2; omega⟩
      | ⟨2, _⟩ => exact ⟨Nat.zero_le _, by show (i 2).val < 256 * 0 + 256; omega⟩
      | ⟨3, _⟩ => exact ⟨Nat.zero_le _, by show (i 3).val < 0 + 2048; omega⟩
    · right
      intro a
      match a with
      | ⟨0, _⟩ => exact ⟨h.ge, by show (i 0).val < s.val + 1; omega⟩
      | ⟨1, _⟩ => exact ⟨Nat.zero_le _, by show (i 1).val < 0 + 2; omega⟩
      | ⟨2, _⟩ => exact ⟨by show 256 * 1 ≤ (i 2).val; omega, by show (i 2).val < 256 * 1 + 256; omega⟩
      | ⟨3, _⟩ => exact ⟨Nat.zero_le _, by show (i 3).val < 0 + 2048; omega⟩
theorem rC0_sub (b : Fin 2) : (rC0 b).set ⊆ slotSet 0 := by
  intro i hi
  rw [Rect.mem_set_unit] at hi
  have hb : (i 0).val < 0 + 1 := (hi 0).2
  rw [mem_slot]
  show (i 0).val = 0; omega
theorem rC0_mem {b : Fin 2} {i : S2x2x512x2048.Idx} (hi : i ∈ slotSet 0) (h : (i 1).val = b.val) : i ∈ (rC0 b).set := by
  rw [mem_slot] at hi
  rw [Rect.mem_set_unit]
  have hi : (i 0).val = 0 := hi
  have h2 : (i 2).val < 512 := (i 2).isLt
  have h3 : (i 3).val < 2048 := (i 3).isLt
  intro a
  match a with
  | ⟨0, _⟩ => exact ⟨Nat.zero_le _, by show (i 0).val < 0 + 1; omega⟩
  | ⟨1, _⟩ => exact ⟨h.ge, by show (i 1).val < b.val + 1; omega⟩
  | ⟨2, _⟩ => exact ⟨Nat.zero_le _, by show (i 2).val < 0 + 512; omega⟩
  | ⟨3, _⟩ => exact ⟨Nat.zero_le _, by show (i 3).val < 0 + 2048; omega⟩

/-! ## The stretches -/

variable (c : Dev nD) {Kt : PUnit → sProp (MM F)}

/-- One batch row of one partial product. -/
theorem dotRow_step (wM : Memref sig .tc .vmem S1024x4096 .bf16) (g : Bool) (n : ℕ) (b : Fin 2) (X : S2x512x2048.Idx → F .f32) :
    iprop(blk stM c Finset.univ (chunk A g n c) ∗ blk wM c Finset.univ (A.w c) ∗ blk (pM g) c Finset.univ X)
      ⊢ iprop((iprop(blk stM c Finset.univ (chunk A g n c) ∗ blk wM c Finset.univ (A.w c) ∗ blk (pM g) c Finset.univ (row3 0 b.val (PP A g n c) X))
            -∗ Kt ⟨⟩) -∗ wpK c (dotRow wM g b) Kt) := by
  unfold dotRow
  simp only [Prog.bind_lift]
  iintro ⟨Hs, Hw, Hp⟩ Hk
  iapply (blk_load (Finset.subset_univ _)) $$ Hs
  iintro Hs
  iapply (blk_load (Finset.subset_univ _)) $$ Hw
  iintro Hw
  iapply (blk_load (Finset.subset_univ _)) $$ Hp
  iintro Hp
  iapply (blk_store (Finset.subset_univ _) (row3 0 b.val (PP A g n c) X)
    (fun j => (row3_eq (rP_row b j)).trans (PP_row A g n c b j))
    (fun i _ hi => row3_ne fun h => hi (rP_mem h))) $$ Hp
  iintro Hp
  iapply ret_step
  iapply Hk
  isplitl [Hs]; · iexact Hs
  isplitl [Hw]; · iexact Hw
  iexact Hp

/-- One batch row of the first partial product cast into slot 0. -/
theorem castRow_step (g : Bool) (b : Fin 2) (X : S2x2x512x2048.Idx → F .bf16) :
    iprop(blk (pM g) c Finset.univ (PP A g 0 c) ∗ blk (cM g) c (slotSet 0) X)
      ⊢ iprop((iprop(blk (pM g) c Finset.univ (PP A g 0 c) ∗ blk (cM g) c (slotSet 0) (row3 1 b.val (lift (XX A g 0 c)) X)) -∗ Kt ⟨⟩)
          -∗ wpK c (castRow g b) Kt) := by
  unfold castRow
  simp only [Prog.bind_lift]
  iintro ⟨Hp, Hc⟩ Hk
  iapply (blk_load (Finset.subset_univ _)) $$ Hp
  iintro Hp
  iapply (blk_load (rC0_sub b)) $$ Hc
  iintro Hc
  iapply (blk_store (rC0_sub b) (row3 1 b.val (lift (XX A g 0 c)) X)
    (fun j => by rw [row3_eq (rC0_row b j), pay7_apply, lift_cast0]; rfl)
    (fun i hI hi => row3_ne fun h => hi (rC0_mem hI h))) $$ Hc
  iintro Hc
  iapply ret_step
  iapply Hk
  isplitl [Hp]; · iexact Hp
  iexact Hc

/-- One batch row of what came in, added to and put back. -/
theorem accRow_step (g : Bool) (n : ℕ) (r q b : Fin 2) (X : S2x2x512x2048.Idx → F .bf16)
    (hX : ∀ i, (i 1).val = b.val → X i = lift (XX A g n (prv g c)) i) :
    iprop(blk (pM g) c Finset.univ (PP A g (n + 1) c) ∗ blk (cM g) c (rC r q).set X)
      ⊢ iprop((iprop(blk (pM g) c Finset.univ (PP A g (n + 1) c) ∗ blk (cM g) c (rC r q).set (row3 1 b.val (lift (XX A g (n + 1) c)) X)) -∗ Kt ⟨⟩)
          -∗ wpK c (accRow g r q b) Kt) := by
  unfold accRow
  simp only [Prog.bind_lift]
  iintro ⟨Hp, Hc⟩ Hk
  iapply (blk_load (rCb_sub r b q)) $$ Hc
  iintro Hc
  iapply (blk_load (Finset.subset_univ _)) $$ Hp
  iintro Hp
  iapply (blk_load (rCb_sub r b q)) $$ Hc
  iintro Hc
  iapply (blk_store (rCb_sub r b q) (row3 1 b.val (lift (XX A g (n + 1) c)) X)
    (fun j => by rw [row3_eq (rCb_row r b q j), pay16_apply, hX _ (rCb_row r b q j), lift_row, lift_row]; rfl)
    (fun i hI hi => row3_ne fun h => hi (rCb_mem hI h))) $$ Hc
  iintro Hc
  iapply ret_step
  iapply Hk
  isplitl [Hp]; · iexact Hp
  iexact Hc

/-- One batch row of the last addition, into the buffer of partial products. -/
theorem finRow_step (g : Bool) (r q b : Fin 2) (X : S2x512x2048.Idx → F .f32) (hX : ∀ i, (i 0).val = b.val → X i = PP A g 3 c i) :
    iprop(blk (pM g) c (rPh q).set X ∗ blk (cM g) c (rC r q).set (lift (XX A g 2 (prv g c))))
      ⊢ iprop((iprop(blk (pM g) c (rPh q).set (row3 0 b.val (ZZ A g c) X) ∗ blk (cM g) c (rC r q).set (lift (XX A g 2 (prv g c)))) -∗ Kt ⟨⟩)
          -∗ wpK c (finRow g r q b) Kt) := by
  unfold finRow
  simp only [Prog.bind_lift]
  iintro ⟨Hp, Hc⟩ Hk
  iapply (blk_load (rCb_sub r b q)) $$ Hc
  iintro Hc
  iapply (blk_load (rPq_sub b q)) $$ Hp
  iintro Hp
  iapply (blk_load (rPq_sub b q)) $$ Hp
  iintro Hp
  iapply (blk_store (rPq_sub b q) (row3 0 b.val (ZZ A g c) X)
    (fun j => by rw [row3_eq (rPq_row b q j), pay46_apply, hX _ (rPq_row b q j), lift_row']; rfl)
    (fun i hI hi => row3_ne fun h => hi (rPq_mem hI h))) $$ Hp
  iintro Hp
  iapply ret_step
  iapply Hk
  isplitl [Hp]; · iexact Hp
  iexact Hc

end Cert.K

end
-- ==== Proof.Transfers.lean ====
/-
# The transfers and the waits

Each transfer, signal and wait is stated once, for a symbolic device and either ring: what it hands over, what it takes, and
what remains owed. The invariants of the cells and of the released slots are shared by every device.
-/
module

public import proofs.«01_k».proof.Proof.Compute

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F)

/-! ## What every device may consult -/

instance : Fintype Role := Fintype.ofInjective (fun ρ => (⟨ρ.num % 103, Nat.mod_lt _ (by decide)⟩ : Fin 103)) (by
  intro a b h
  have hb : ∀ ρ : Role, ρ.num < 103 := by
    intro ρ
    rcases ρ with _ | g | _ | ⟨q, g⟩ | ⟨g, n, q⟩ | ⟨g, n, q⟩ <;> (try have hg : g.toNat ≤ 1 := Bool.toNat_le g) <;> simp only [Role.num] <;> omega
  have h := congrArg Fin.val h
  dsimp only at h
  rw [Nat.mod_eq_of_lt (hb a), Nat.mod_eq_of_lt (hb b)] at h
  exact num_inj h)

/-- The slot of a key, at contents not named. -/
abbrev keySlot (k : Key) : sProp (MM F) := anySlot k.2.1 k.1 k.2.2

/-- Every cell's invariant, every slot's, and the levels. -/
def ctx (K : GSem nD τ sig → ℕ) (ιs : Key → ℕ) : sProp (MM F) :=
  iprop((bigSep Finset.univ fun x : Role × Dev nD => cellInv ER (Rd A) (K (cell x.1 x.2)) (cell x.1 x.2))
    ∗ (bigSep Finset.univ fun k : Key => Release.slotInv ES (ιs k) k (keySlot k)) ∗ levAts L lv)

instance ctx_persistent (K : GSem nD τ sig → ℕ) (ιs : Key → ℕ) : BI.Persistent (ctx A K ιs) := by unfold ctx; infer_instance

variable {K : GSem nD τ sig → ℕ} {ιs : Key → ℕ}

theorem ctx_cell (ρ : Role) (c : Dev nD) : ctx A K ιs ⊢ cellInv ER (Rd A) (K (cell ρ c)) (cell ρ c) := by
  unfold ctx
  iintro ⟨H, -, -⟩
  iapply (Release.heard_elim (fun x : Role × Dev nD => cellInv ER (Rd A) (K (cell x.1 x.2)) (cell x.1 x.2)) (Finset.mem_univ (ρ, c))) $$ H
theorem ctx_slot (k : Key) : ctx A K ιs ⊢ Release.slotInv ES (ιs k) k (keySlot k) := by
  unfold ctx
  iintro ⟨-, H, -⟩
  iapply (Release.heard_elim (fun k : Key => Release.slotInv ES (ιs k) k (keySlot k)) (Finset.mem_univ k)) $$ H
theorem ctx_levs : ctx A K ιs ⊢ levAts L lv := by
  unfold ctx
  iintro ⟨-, -, H⟩
  iexact H

/-- What device `c` owes, its waits not named. -/
def own (c : Dev nD) (l : List (Pay nD τ sig)) : sProp (MM F) := iprop(∃ W : Waits sig ℕ, owes (c : Thread nD τ) (tallyL l) W)

theorem tallyL_cons' (x : Pay nD τ sig) (l : List (Pay nD τ sig)) : tallyL (x :: l) = tallyL l + tallyAt x.1 x.2.1 x.2.2 := by
  rw [add_comm]; rfl

variable (c : Dev nD) {Kt : PUnit → sProp (MM F)}

/-! ## Waits for one duty -/

/-- A wait for a whole round of one duty. -/
theorem wait_step (ρ : Role) (r i b N : ℕ) (hd : dutiesR ρ r = {0}) (hN : amountR ρ = N) (Z : sProp (MM F)) (hZ : payR A c ρ r 0 = Z) (hi : i ≤ 1) (hb : lvR ρ i ≤ b) (l : List (Pay nD τ sig)) (hl : ∀ x ∈ l, Over b x)
    {w : TpuEff nD τ sig (Elt F) Λ₀ .tc PUnit}
    (hw : ∀ Q : PUnit → sProp (MM F), wpE defs₀ 𝒱₀ (c : Thread nD τ) none Set.univ w Q = waitSpec (c : Thread nD τ) Set.univ ρ.loc N Q) :
    iprop(ctx A K ιs ∗ own c l ∗ atPos ER (cell ρ c) r ∅ 0 ∗ cred (tallyAt (cell ρ c) i N))
      ⊢ iprop((iprop(own c l ∗ atPos ER (cell ρ c) (r + 1) ∅ 0 ∗ reached ER (cell ρ c) (r + 1) ∗ Z) -∗ Kt ⟨⟩) -∗ wpK c (.op w .ret) Kt) := by
  unfold own
  iintro ⟨#HI, ⟨%W, HO⟩, Hat, Hc⟩ Hk
  iapply (wp_wait_rest_token 𝒱₀ ER (Rd A) (c : Thread nD τ) none (κ := K (cell ρ c)) hw (Set.mem_univ _) i (O := tallyL l) (W := W) (R := r) (m := 0) (T := ∅)
    (by rw [Rd_expect, hd, hN, Finset.card_singleton]; omega)) $$ [HO Hat Hc]
  · isplitr; · iapply (ctx_cell A ρ c); iexact HI
    isplitl [Hc]; · iexact Hc
    isplitl [HO]; · iexact HO
    isplitr; · iapply (mayWait c ρ i b hi hb l hl); iapply (ctx_levs A); iexact HI
    iexact Hat
  iintro ⟨HO, Hat, Hr, Hp⟩
  ihave Hp := (Entails.of_eq ((rest_one A c ρ r hd).trans hZ)) $$ Hp
  iapply ret_step
  iapply Hk
  isplitl [HO]; · iexists _; iexact HO
  isplitl [Hat]; · iexact Hat
  isplitl [Hr]; · iexact Hr
  iexact Hp

/-- The wait for a transfer out gives the source back. -/
theorem waitSend_step (g : Bool) (h : Fin 3) (q : Fin 2) (l : List (Pay nD τ sig)) (hl : ∀ x ∈ l, Over 0 x) :
    iprop(ctx A K ιs ∗ own c l ∗ atPos ER (cell (.send g h q) c) 0 ∅ 0 ∗ cred (tallyAt (cell (.send g h q) c) 0 NB))
      ⊢ iprop((iprop(own c l ∗ atPos ER (cell (.send g h q) c) 1 ∅ 0 ∗ sendPay A c g h q) -∗ Kt ⟨⟩) -∗ wpK c (waitSend g h (sl h) (dl h) q) Kt) := by
  iintro H Hk
  iapply (wait_step A c (.send g h q) 0 0 0 NB rfl rfl (sendPay A c g h q) rfl (Nat.zero_le _) (Nat.zero_le _) l hl
    (by rw [← blkM_credit g (sl h) q]; exact wpE_waitDma2_eq 𝒱₀ (c : Thread nD τ) none Set.univ)) $$ H
  iintro ⟨HO, Hat, -, Hp⟩
  iapply Hk
  isplitl [HO]; · iexact HO
  isplitl [Hat]; · iexact Hat
  iexact Hp

/-- The wait for a transfer in gives the slot back at what landed. -/
theorem waitRecv_step (g : Bool) (h : Fin 3) (q : Fin 2) (l : List (Pay nD τ sig)) (hl : ∀ x ∈ l, Over (2 + h.val) x) :
    iprop(ctx A K ιs ∗ own c l ∗ atPos ER (cell (.recv g h q) c) 0 ∅ 0 ∗ cred (tallyAt (cell (.recv g h q) c) 0 NB))
      ⊢ iprop((iprop(own c l ∗ atPos ER (cell (.recv g h q) c) 1 ∅ 0 ∗ recvPay A c g h q) -∗ Kt ⟨⟩) -∗ wpK c (waitRecv g h (sl h) (dl h) q) Kt) := by
  iintro H Hk
  iapply (wait_step A c (.recv g h q) 0 0 (2 + h.val) NB rfl rfl (recvPay A c g h q) rfl (Nat.zero_le _) (Nat.le_refl _) l hl
    (by rw [← blkM_credit g (dl h) q]; exact wpE_waitDma2_eq 𝒱₀ (c : Thread nD τ) none Set.univ)) $$ H
  iintro ⟨HO, Hat, -, Hp⟩
  iapply Hk
  isplitl [HO]; · iexact HO
  isplitl [Hat]; · iexact Hat
  iexact Hp

/-- The wait for a store to the result gives the result's block. -/
theorem waitStore_step (g : Bool) (q : Fin 2) :
    iprop(ctx A K ιs ∗ own c [] ∗ atPos ER (cell (.store q g) c) 0 ∅ 0 ∗ cred (tallyAt (cell (.store q g) c) 0 NS))
      ⊢ iprop((iprop(own c [] ∗ atPos ER (cell (.store q g) c) 1 ∅ 0 ∗ storePay A c q g) -∗ Kt ⟨⟩) -∗ wpK c (waitStore g q) Kt) := by
  iintro H Hk
  iapply (wait_step A c (.store q g) 0 0 0 NS rfl rfl (storePay A c q g) rfl (Nat.zero_le _) (Nat.zero_le _) [] (fun x hx => absurd hx (List.not_mem_nil))
    (by rw [← out_credit q g]; exact wpE_waitDma2_eq 𝒱₀ (c : Thread nD τ) none Set.univ)) $$ H
  iintro ⟨HO, Hat, -, Hp⟩
  iapply Hk
  isplitl [HO]; · iexact HO
  isplitl [Hat]; · iexact Hat
  iexact Hp

/-! ## Transfers -/

theorem blkM_set (g : Bool) (s q : Fin 2) : (blkM g s q).view.set = (cM g).view.setOn (rC s q).set := by
  show (((cM g).view.slice (rC s q)).reshape _ _).set = _
  rw [View.set_reshape, View.set_slice]; rfl

/-- One transfer of a hop: the block, the slot it goes to and the duties of the two semaphores are handed over. -/
theorem sendOne_step (g : Bool) (h : Fin 3) (q : Fin 2) (l : List (Pay nD τ sig)) :
    iprop(ctx A K ιs ∗ own c ((cell (.recv g h q) (nxt g c), 0, NB) :: l) ∗ sendPay A c g h q ∗ anyBlk (cM g) (nxt g c) (rC (dl h) q).set
        ∗ (dutyTok ER (cell (.send g h q) c) 0 0 ∗ reached ER (cell (.send g h q) c) 0)
        ∗ (dutyTok ER (cell (.recv g h q) (nxt g c)) 0 0 ∗ reached ER (cell (.recv g h q) (nxt g c)) 0))
      ⊢ iprop((iprop(own c l ∗ cred (tallyAt (cell (.send g h q) c) 0 NB)) -∗ Kt ⟨⟩) -∗ wpK c (sendOne g h (sl h) (dl h) q (nxt g c)) Kt) := by
  unfold own sendPay blk anyBlk Release.slot
  iintro ⟨#HI, ⟨%W, HO⟩, ⟨%fs, %hfs, Hs⟩, ⟨%fd, Hd⟩, ⟨HtS, HrS⟩, HtR, HrR⟩ Hk
  iapply (wp_send_pointsTo 𝒱₀ ER (Rd A) (c : Thread nD τ) none (c' := (nxt g c : Thread nD τ)) (src := blkM g (sl h) q) (dst := blkM g (dl h) q)
      (sS := .dma (sendS g h q)) (sem := .dma (recvS g h q)) (q := fullShare) (fs := fs) (fd := fd)
      (κ₁ := K (cell (.send g h q) c)) (κ₂ := K (cell (.recv g h q) (nxt g c))) (r₁ := 0) (r₂ := 0) (d₁ := 0) (d₂ := 0)
      (by rw [show ((c : Thread nD τ), SemLoc.dma (sendS g h q)) = cell (.send g h q) c from rfl, Rd_duties]; exact Finset.mem_singleton_self _)
      (by rw [show ((nxt g c : Thread nD τ), SemLoc.dma (recvS g h q)) = cell (.recv g h q) (nxt g c) from rfl, Rd_duties]; exact Finset.mem_singleton_self _)
      0 0 NB (blkM_credit g (dl h) q) (Rd_amount A c (.send g h q) 0 0) (Rd_amount A (nxt g c) (.recv g h q) 0 0) (tallyL l) (tallyL_cons' (cell (.recv g h q) (nxt g c), 0, NB) l) (W := W)
      (by
        rw [show ((c : Thread nD τ), SemLoc.dma (sendS g h q)) = cell (.send g h q) c from rfl, Rd_payload]
        show _ ⊢ sendPay A c g h q
        unfold sendPay blk
        rw [blkM_set]
        iintro H
        iexists fs
        isplitr; · ipureintro; exact hfs
        iexact H)
      (by
        rw [show ((nxt g c : Thread nD τ), SemLoc.dma (recvS g h q)) = cell (.recv g h q) (nxt g c) from rfl, Rd_payload]
        show _ ⊢ recvPay A (nxt g c) g h q
        unfold recvPay blk
        rw [blkM_set]
        iintro H
        iexists ((blkM g (dl h) q).view.write (Elt F) fd ((blkM g (sl h) q).view.read (Elt F) fs) Finset.univ)
        isplitr
        · ipureintro
          refine written_reshape (F := F) (cM g) (rC (dl h) q) _ (fun j => ?_)
          rw [prv_nxt, ← lift_slot (XX A g h.val c) (sl h) (dl h) q]
          exact hfs _ ((rC (sl h) q).idx_mem _)
        iexact H)) $$ [HO Hs Hd HtS HrS HtR HrR]
  · isplitr; · iapply (ctx_cell A (.send g h q) c); iexact HI
    isplitr; · iapply (ctx_cell A (.recv g h q) (nxt g c)); iexact HI
    isplitl [Hs]; · rw [blkM_set]; iexact Hs
    isplitl [Hd]; · rw [blkM_set]; iexact Hd
    isplitl [HO]; · iexact HO
    isplitl [HtS]; · iexact HtS
    isplitl [HrS]; · iexact HrS
    isplitl [HtR]; · iexact HtR
    iexact HrR
  iintro ⟨Hc, HO⟩
  iapply ret_step
  iapply Hk
  isplitl [HO]; · iexists _; iexact HO
  iexact Hc

end Cert.K

end
-- ==== Proof.Steps.lean ====
/-
# Loads, stores to the result, the handshake and the credits

The local copies, and the signals and waits on the handshake's and the credits' semaphores, each stated once for a symbolic
device and either ring.
-/
module

public import proofs.«01_k».proof.Proof.Transfers

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ} (c : Dev nD) {Kt : PUnit → sProp (MM F)}

theorem blk_elim {sp : Space} {s : Shape} {e : EltTy} {M : Memref sig .tc sp s e} {I : Finset s.Idx} {X : s.Idx → Elt F e} :
    blk M c I X ⊢ iprop(∃ f : Buf (Elt F) (M.view.loc (c : Thread nD τ)), ⌜∀ i ∈ I, M.view.read (Elt F) f i = X i⌝
      ∗ (M.view.loc (c : Thread nD τ) ↦[M.view.setOn I]{fullShare} f)) := by
  unfold blk; exact Entails.refl _
theorem any_elim {sp : Space} {s : Shape} {e : EltTy} {M : Memref sig .tc sp s e} {I : Finset s.Idx} :
    anyBlk (F := F) M c I ⊢ iprop(∃ f : Buf (Elt F) (M.view.loc (c : Thread nD τ)), (M.view.loc (c : Thread nD τ) ↦[M.view.setOn I]{fullShare} f)) := by
  unfold anyBlk Release.slot; exact Entails.refl _

/-! ## The loads -/

/-- The round of the load before the `n`-th partial product of ring `g`. -/
abbrev ldRound (g : Bool) (n : ℕ) : ℕ := 2 * n + g.toNat
theorem ldRing_round (g : Bool) (n : ℕ) : ldRing (ldRound g n) = g := by
  cases g
  · show ((2 * n + 0) % 2 == 1) = false
    rw [show (2 * n + 0) % 2 = 0 by omega]; rfl
  · show ((2 * n + 1) % 2 == 1) = true
    rw [show (2 * n + 1) % 2 = 1 by omega]; rfl
theorem ldRound_half (g : Bool) (n : ℕ) : ldRound g n / 2 = n := by
  have := Bool.toNat_le g
  show (2 * n + g.toNat) / 2 = n; omega
theorem loadPay_round (g : Bool) (n : ℕ) : loadPay A c (ldRound g n)
    = iprop(blk stM c Finset.univ (chunk A g n c) ∗ blk oM c (rK (behind g n c)).set (A.o c)) := by
  unfold loadPay; rw [ldRing_round, ldRound_half]

theorem oM_slice_set (k : Dev nD) : (oM.slice (rK k) (fun _ => rfl)).view.set = oM.view.setOn (rK k).set := by
  show (oM.view.slice (rK k)).set = _
  rw [View.set_slice]; rfl

/-- What the loads of device `c` hold: the position on their semaphore and the tokens of the rounds to come. -/
def loadSt (r : ℕ) : sProp (MM F) := iprop(atPos ER (cell .load c) r ∅ 0 ∗ reached ER (cell .load c) r)
def loadTok (r : ℕ) : sProp (MM F) := dutyTok ER (cell .load c) r 0

set_option maxHeartbeats 400000 in
/-- A chunk of the left operand is loaded, and the partial product of it made. -/
theorem partialOf_step (wM : Memref sig .tc .vmem S1024x4096 .bf16) (g : Bool) (n : ℕ) (hn : n < 4) (l : List (Pay nD τ sig)) (hl : ∀ x ∈ l, Over 0 x)
    (off : Fin 3 → ℕ) (hoff : ∀ a, off a + S2x512x1024.size a ≤ S2x2048x1024.size a) (he : off = offC (behind g n c)) :
    iprop(ctx A K ιs ∗ own c l ∗ loadSt c (ldRound g n) ∗ loadTok c (ldRound g n) ∗ blk oM c Finset.univ (A.o c) ∗ anyBlk stM c Finset.univ
        ∗ blk wM c Finset.univ (A.w c) ∗ anyBlk (pM g) c Finset.univ)
      ⊢ iprop((iprop(own c l ∗ loadSt c (ldRound g n + 1) ∗ blk oM c Finset.univ (A.o c) ∗ anyBlk stM c Finset.univ
          ∗ blk wM c Finset.univ (A.w c) ∗ blk (pM g) c Finset.univ (PP A g n c)) -∗ Kt ⟨⟩) -∗ wpK c (partialOf wM g off hoff) Kt) := by
  subst he
  have hr : dutiesR .load (ldRound g n) = {0} := by
    have := Bool.toNat_le g
    exact if_pos (by show 2 * n + g.toNat < 8; omega)
  unfold partialOf
  rw [wpK_bind]
  unfold loadSt loadTok
  iintro ⟨#HI, HO, ⟨Hat, Hr⟩, Htok, Ho, Hst, Hw, Hp⟩ Hk
  ihave Ho := (Entails.of_eq (congrArg (fun I => blk oM c I (A.o c)) (Finset.union_compl (rK (behind g n c)).set).symm)) $$ Ho
  ihave Ho := (blk_split disjoint_compl_right) $$ Ho
  icases Ho with ⟨Ho, Ho'⟩
  ihave Ho := (blk_elim c) $$ Ho
  ihave Hst := (any_elim c) $$ Hst
  icases Ho with ⟨%fs, %hfs, Ho⟩
  icases Hst with ⟨%fd, Hst⟩
  iapply (wp_copy_pointsTo 𝒱₀ ER (Rd A) (c : Thread nD τ) none (src := oM.slice (rK (behind g n c)) (fun _ => rfl)) (dst := stM) (sem := .dma loadS) (q := fullShare)
      (fs := fs) (fd := fd) (r := ldRound g n) (d := 0) (κ := K (cell .load c))
      (by rw [show ((c : Thread nD τ), SemLoc.dma loadS) = cell .load c from rfl, Rd_duties, hr]; exact Finset.mem_singleton_self _) 0 NL st_credit
      (Rd_amount A c .load _ 0)
      (by
        rw [show ((c : Thread nD τ), SemLoc.dma loadS) = cell .load c from rfl, Rd_payload]
        show _ ⊢ loadPay A c (ldRound g n)
        rw [loadPay_round, oM_slice_set]
        unfold blk
        iintro ⟨Hd, Hs⟩
        isplitl [Hd]
        · iexists (stM.view.write (Elt F) fd ((oM.slice (rK (behind g n c)) (fun _ => rfl)).view.read (Elt F) fs) Finset.univ)
          isplitr
          · ipureintro
            intro i _
            exact (View.read_write_of_mem (v := stM.view) (Val := Elt F) fd _ (M := Finset.univ) (x := i) (Finset.mem_univ _)).trans
              (hfs _ ((rK (behind g n c)).idx_mem i))
          iexact Hd
        iexists fs
        isplitr; · ipureintro; exact hfs
        iexact Hs)) $$ [Ho Hst Htok Hr]
  · isplitr; · iapply (ctx_cell A .load c); iexact HI
    isplitl [Ho]; · rw [oM_slice_set]; iexact Ho
    isplitl [Hst]; · iexact Hst
    isplitl [Htok]; · iexact Htok
    iexact Hr
  iintro Hc
  iapply ret_step
  rw [wpK_bind]
  iapply (wait_step A c .load (ldRound g n) 0 0 NL hr rfl (loadPay A c (ldRound g n)) rfl (Nat.zero_le _) (Nat.zero_le _) l hl
    (by rw [← st_credit]; exact wpE_waitDma2_eq 𝒱₀ (c : Thread nD τ) none Set.univ)) $$ [HO Hat Hc]
  · isplitr; · iexact HI
    isplitl [HO]; · iexact HO
    isplitl [Hat]; · iexact Hat
    iexact Hc
  iintro ⟨HO, Hat, Hr, Hpay⟩
  ihave Hpay := (Entails.of_eq (loadPay_round A c g n)) $$ Hpay
  icases Hpay with ⟨Hst, Ho⟩
  ihave Ho := (blk_join (M := oM) (c := c) (X := A.o c) (disjoint_compl_right (a := (rK (behind g n c)).set))) $$ [Ho Ho']
  · isplitl [Ho]; · iexact Ho
    iexact Ho'
  ihave Ho := (Entails.of_eq (congrArg (fun I => blk oM c I (A.o c)) (Finset.union_compl (rK (behind g n c)).set))) $$ Ho
  ihave Hp := (any_blk (M := pM g) (c := c) (I := Finset.univ)) $$ Hp
  icases Hp with ⟨%X, Hp⟩
  rw [wpK_bind]
  iapply (dotRow_step A c wM g n 0 X) $$ [Hst Hw Hp]
  · isplitl [Hst]; · iexact Hst
    isplitl [Hw] <;> iassumption
  iintro ⟨Hst, Hw, Hp⟩
  iapply (dotRow_step A c wM g n 1 _) $$ [Hst Hw Hp]
  · isplitl [Hst]; · iexact Hst
    isplitl [Hw] <;> iassumption
  iintro ⟨Hst, Hw, Hp⟩
  ihave Hp := (Entails.of_eq (congrArg (blk (pM g) c Finset.univ) (row3_fin (s := S2x512x2048) (a := 0) rfl (PP A g n c) X))) $$ Hp
  ihave Hst := (blk_any (M := stM)) $$ Hst
  iapply Hk
  isplitl [HO]; · iexact HO
  isplitl [Hat Hr]; · isplitl [Hat] <;> iassumption
  isplitl [Ho]; · iexact Ho
  isplitl [Hst]; · iexact Hst
  isplitl [Hw]; · iexact Hw
  iexact Hp

/-! ## The stores to the result -/

/-- The result's block is stored from the buffer of partial products. -/
theorem storeOut_step (g : Bool) (q : Fin 2) {hs : (pM g).slice (rPh q) (fun _ => rfl) |>.view.WordExact}
    {hd : (outM.slice (rO q g) (fun _ => rfl)).view.WordExact} {ht} :
    iprop(ctx A K ιs ∗ blk (pM g) c (rPh q).set (ZZ A g c) ∗ anyBlk outM c (rO q g).set
        ∗ dutyTok ER (cell (.store q g) c) 0 0 ∗ reached ER (cell (.store q g) c) 0)
      ⊢ iprop((cred (tallyAt (cell (.store q g) c) 0 NS) -∗ Kt ⟨⟩)
          -∗ wpK c (.op (.enqueueDma ((pM g).slice (rPh q) (fun _ => rfl)) (.here (outM.slice (rO q g) (fun _ => rfl))) (.dma (storeS q g)) hs hd ht) .ret) Kt) := by
  have e1 : ((pM g).slice (rPh q) (fun _ => rfl)).view.set = (pM g).view.setOn (rPh q).set := by
    show ((pM g).view.slice (rPh q)).set = _
    rw [View.set_slice]; rfl
  have e2 : (outM.slice (rO q g) (fun _ => rfl)).view.set = outM.view.setOn (rO q g).set := by
    show (outM.view.slice (rO q g)).set = _
    rw [View.set_slice]; rfl
  unfold blk anyBlk Release.slot
  iintro ⟨#HI, ⟨%fs, %hfs, Hs⟩, ⟨%fd, Hd⟩, Htok, Hr⟩ Hk
  iapply (wp_copy_pointsTo 𝒱₀ ER (Rd A) (c : Thread nD τ) none (src := (pM g).slice (rPh q) (fun _ => rfl)) (dst := outM.slice (rO q g) (fun _ => rfl))
      (sem := .dma (storeS q g)) (q := fullShare) (fs := fs) (fd := fd) (r := 0) (d := 0) (κ := K (cell (.store q g) c))
      (by rw [show ((c : Thread nD τ), SemLoc.dma (storeS q g)) = cell (.store q g) c from rfl, Rd_duties]; exact Finset.mem_singleton_self _) 0 NS (out_credit q g)
      (Rd_amount A c (.store q g) _ 0)
      (by
        rw [show ((c : Thread nD τ), SemLoc.dma (storeS q g)) = cell (.store q g) c from rfl, Rd_payload]
        show _ ⊢ storePay A c q g
        unfold storePay blk anyBlk Release.slot
        rw [e1, e2]
        iintro ⟨Hd, Hs⟩
        isplitl [Hd]
        · iexists ((outM.slice (rO q g) (fun _ => rfl)).view.write (Elt F) fd (((pM g).slice (rPh q) (fun _ => rfl)).view.read (Elt F) fs) Finset.univ)
          isplitr
          · ipureintro
            refine written_slice (F := F) outM (rO q g) (fun j => ?_)
            rw [outV_half]
            exact hfs _ ((rPh q).idx_mem j)
          iexact Hd
        iexists fs
        iexact Hs)) $$ [Hs Hd Htok Hr]
  · isplitr; · iapply (ctx_cell A (.store q g) c); iexact HI
    isplitl [Hs]; · rw [e1]; iexact Hs
    isplitl [Hd]; · rw [e2]; iexact Hd
    isplitl [Htok]; · iexact Htok
    iexact Hr
  iintro Hc
  iapply ret_step
  iapply Hk
  iexact Hc

/-! ## The handshake -/

/-- What device `c` gives for ring `g` in the handshake: its slot 1, that its cells stand at their start, and the duty's token. -/
def barGive (g : Bool) : sProp (MM F) :=
  iprop((dutyTok ER (cell .bar (prv g c)) 0 (bif g then 1 else 0) ∗ reached ER (cell .bar (prv g c)) 0) ∗ anySlot g c 1
    ∗ (bigSep (Finset.univ : Finset (Fin 3 × Fin 2)) fun x => reached ER (cell (.recv g x.1 x.2) c) 0)
    ∗ reached ER (cell (.credit (!g)) c) 0)

/-- A unit of the handshake. -/
theorem barSignal_step (g : Bool) (l : List (Pay nD τ sig)) :
    iprop(ctx A K ιs ∗ own c ((cell .bar (prv g c), 0, 1) :: l) ∗ barGive c g)
      ⊢ iprop((own c l -∗ Kt ⟨⟩) -∗ wpK c (semSignalWord (prv g c) barS 1#32) Kt) := by
  unfold own barGive
  iintro ⟨#HI, ⟨%W, HO⟩, ⟨Htok, Hr⟩, Hpay⟩ Hk
  iapply (wp_signal 𝒱₀ ER (Rd A) (c : Thread nD τ) none (dst := (prv g c : Thread nD τ)) (sem := barS) (r := 0) (d := bif g then 1 else 0) (κ := K (cell .bar (prv g c)))
      (by rw [show ((prv g c : Thread nD τ), SemLoc.reg barS) = cell .bar (prv g c) from rfl, Rd_duties]; cases g <;> simp [dutiesR])
      (Rd_amount A (prv g c) .bar 0 _) 0 (O₀ := tallyL ((cell .bar (prv g c), 0, 1) :: l)) (tallyL l) (tallyL_cons' (cell .bar (prv g c), 0, 1) l) (W := W))
    $$ [HO Htok Hr Hpay]
  · isplitr; · iapply (ctx_cell A .bar (prv g c)); iexact HI
    isplitl [HO]; · iexact HO
    isplitl [Htok]; · iexact Htok
    isplitl [Hpay]
    · rw [show ((prv g c : Thread nD τ), SemLoc.reg barS) = cell .bar (prv g c) from rfl, Rd_payload]
      have e : payR A (prv g c) .bar 0 (bif g then 1 else 0) = barPay (prv g c) g := by cases g <;> rfl
      rw [e]
      unfold barPay
      rw [nxt_prv]
      iexact Hpay
    iexact Hr
  iintro HO
  iapply ret_step
  iapply Hk
  iexists _; iexact HO

/-- The handshake. -/
theorem handshake_step :
    iprop(ctx A K ιs ∗ own c (due0 c) ∗ barGive c false ∗ barGive c true ∗ atPos ER (cell .bar c) 0 ∅ 0 ∗ cred (tallyAt (cell .bar c) 0 2))
      ⊢ iprop((iprop(own c (due1 c) ∗ atPos ER (cell .bar c) 1 ∅ 0 ∗ barPay c false ∗ barPay c true) -∗ Kt ⟨⟩)
          -∗ wpK c (handshake (prv false c) (prv true c)) Kt) := by
  unfold handshake
  iintro ⟨#HI, HO, Hg0, Hg1, Hat, Hc⟩ Hk
  rw [wpK_bind]
  iapply (barSignal_step A c false ((cell .bar (prv true c), 0, 1) :: due1 c)) $$ [HO Hg0]
  · isplitr; · iexact HI
    isplitl [HO]; · iexact HO
    iexact Hg0
  iintro HO
  rw [wpK_bind]
  iapply (barSignal_step A c true (due1 c)) $$ [HO Hg1]
  · isplitr; · iexact HI
    isplitl [HO] <;> iassumption
  iintro HO
  unfold own
  icases HO with ⟨%W, HO⟩
  iapply (wp_wait_rest_token 𝒱₀ ER (Rd A) (c : Thread nD τ) none (sm := .reg barS) (k' := 2) (κ := K (cell .bar c)) (wpE_semWait_eq 𝒱₀ (c : Thread nD τ) none Set.univ) (Set.mem_univ _) 0
    (O := tallyL (due1 c)) (W := W) (R := 0) (m := 0) (T := ∅) (by rw [show ((c : Thread nD τ), SemLoc.reg barS) = cell .bar c from rfl, Rd_expect]; rfl)) $$ [HO Hat Hc]
  · isplitr; · iapply (ctx_cell A .bar c); iexact HI
    isplitl [Hc]; · iexact Hc
    isplitl [HO]; · iexact HO
    isplitr; · iapply (mayWait c .bar 0 1 (Nat.zero_le _) (Nat.le_refl _) (due1 c) (over1 c)); iapply (ctx_levs A); iexact HI
    iexact Hat
  iintro ⟨HO, Hat, -, Hp⟩
  have e : bigSep ((Rd A).duties ((c : Thread nD τ), SemLoc.reg barS) 0 \ ∅) (fun d => (Rd A).payload ((c : Thread nD τ), SemLoc.reg barS) 0 d) = iprop(barPay c false ∗ barPay c true) := by
    rw [show ((c : Thread nD τ), SemLoc.reg barS) = cell .bar c from rfl]
    rw [Finset.sdiff_empty, Rd_duties, show dutiesR .bar 0 = {0, 1} from rfl, bigSep_insert (by decide), bigSep_singleton, Rd_payload, Rd_payload]
    rfl
  ihave Hp := (Entails.of_eq e) $$ Hp
  iapply ret_step
  iapply Hk
  isplitl [HO]; · iexists _; iexact HO
  isplitl [Hat]; · iexact Hat
  iexact Hp

end Cert.K

end
-- ==== Proof.Credits.lean ====
/-
# The credits

A device that has got its sources back releases a slot and sends two credits to the device it receives from. The receiver of
credits takes them one at a time, not knowing which of them it takes: one credit is enough to know that slot 0 of the next
device has been released, three are enough for slot 1.
-/
module

public import proofs.«01_k».proof.Proof.Steps

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ} (c : Dev nD) {Kt : PUnit → sProp (MM F)}

/-! ## Releasing and taking a slot -/

theorem setOn_nonempty (g : Bool) (s : Fin 2) : ((cM g).view.setOn (slotSet s)).Nonempty := by
  have h : (slotSet s).Nonempty := ⟨(rC s 0).idx (fun a => ⟨0, (by decide : ∀ a : Fin 4, 0 < S1x2x256x2048.size a) a⟩), Finset.mem_union_left _ ((rC s 0).idx_mem _)⟩
  exact Finset.Nonempty.map h

/-- A slot given up once its transfer out is over. -/
theorem release_step (g : Bool) (s : Fin 2) :
    iprop(ctx A K ιs ∗ Release.readerAt ES ((c, g, s) : Key) 0 ∗ anySlot g c s) ⊢ (|={Set.univ}=> Release.released ES ((c, g, s) : Key) 1 : sProp (MM F)) := by
  iintro ⟨#HI, Hr, HS⟩
  imod (Release.slot_release ES (Set.mem_univ (ιs (c, g, s))) (S := keySlot (c, g, s)) (Release.slot_slot_false (setOn_nonempty g s)) 0) $$ [Hr HS] with ⟨-, Hrel⟩
  · isplitr; · iapply (ctx_slot A (c, g, s)); iexact HI
    isplitl [Hr]; · iexact Hr
    iexact HS
  imodintro
  iexact Hrel

/-- A released slot of the next device, taken by the one that may write it. -/
theorem take_step (k : Key) :
    iprop(ctx A K ιs ∗ Release.released ES k 1 ∗ Release.writeTok ES k 1) ⊢ (|={Set.univ}=> keySlot k : sProp (MM F)) := by
  iintro ⟨#HI, Hr, Ht⟩
  iapply (Release.slot_take ES (Set.mem_univ (ιs k)) 1)
  isplitr; · iapply (ctx_slot A k); iexact HI
  isplitl [Hr] <;> iassumption

/-! ## Sending credits -/

/-- What the two credits after hop `i` need: their duties' tokens, and which slots are released. -/
def credGive (g : Bool) (d d' : Fin 4) : sProp (MM F) :=
  iprop((dutyTok ER (cell (.credit g) (prv g c)) 0 d ∗ credPay (prv g c) g d) ∗ (dutyTok ER (cell (.credit g) (prv g c)) 0 d' ∗ credPay (prv g c) g d')
    ∗ reached ER (cell (.credit g) (prv g c)) 0)

/-- Two credits are sent. -/
theorem credSignal_step (g : Bool) (i : ℕ) (d d' : Fin 4) (l : List (Pay nD τ sig)) :
    iprop(ctx A K ιs ∗ own c ((cell (.credit g) (prv g c), i, 2) :: l) ∗ credGive c g d d')
      ⊢ iprop((own c l -∗ Kt ⟨⟩) -∗ wpK c (semSignalWord (prv g c) (credS g) 2#32) Kt) := by
  unfold own credGive
  iintro ⟨#HI, ⟨%W, HO⟩, ⟨Ht, Hp⟩, ⟨Ht', Hp'⟩, Hr⟩ Hk
  have hd : ∀ d : Fin 4, d ∈ (Rd A).duties ((prv g c : Thread nD τ), .reg (credS g)) 0 := fun d => by
    rw [show ((prv g c : Thread nD τ), SemLoc.reg (credS g)) = cell (.credit g) (prv g c) from rfl, Rd_duties]
    exact (by decide : ∀ d : Fin 4, d ∈ ({0, 1, 2, 3} : Finset (Fin 4))) d
  have hp : ∀ d : Fin 4, credPay (F := F) (prv g c) g d = (Rd A).payload ((prv g c : Thread nD τ), .reg (credS g)) 0 d := fun d =>
    (Rd_payload A (prv g c) (.credit g) 0 d).symm
  iapply (wp_signal2 A c (prv g c) (sem := credS g) (r := 0) (d := d) (d' := d') (κ := K (cell (.credit g) (prv g c))) (hd d) (hd d')
      (Rd_amount A (prv g c) (.credit g) 0 d) (Rd_amount A (prv g c) (.credit g) 0 d') i (O₀ := tallyL ((cell (.credit g) (prv g c), i, 2) :: l)) (tallyL l)
      (tallyL_cons' (cell (.credit g) (prv g c), i, 2) l) (W := W))
    $$ [HO Ht Hp Ht' Hp' Hr]
  · isplitr; · iapply (ctx_cell A (.credit g) (prv g c)); iexact HI
    isplitl [HO]; · iexact HO
    isplitl [Ht]; · iexact Ht
    isplitl [Hp]; · rw [← hp d]; iexact Hp
    isplitl [Ht']; · iexact Ht'
    isplitl [Hp']; · rw [← hp d']; iexact Hp'
    iexact Hr
  iintro HO
  iapply ret_step
  iapply Hk
  iexists _; iexact HO

/-! ## Taking credits -/

instance credPay_persistent (c : Dev nD) (g : Bool) (d : Fin 4) : BI.Persistent (credPay (F := F) c g d) := by
  unfold credPay; by_cases h : d.val < 2 <;> simp only [h, if_true, if_false] <;> infer_instance

/-- `m` credits taken: at least so many duties have been seen paid. -/
def credAt (g : Bool) (m : ℕ) : sProp (MM F) :=
  iprop(∃ S : Finset (Fin 4), ⌜m ≤ S.card⌝ ∗ atPos ER (cell (.credit g) c) 0 S m ∗ bigSep S fun d => credPay c g d)

/-- The credits before any is taken. -/
theorem credAt_zero (g : Bool) : atPos ER (cell (.credit g) c) 0 ∅ 0 ⊢ credAt (F := F) c g 0 := by
  unfold credAt
  iintro H
  iexists ∅
  isplitr; · ipureintro; exact Nat.zero_le _
  isplitl [H]; · iexact H
  rw [bigSep_empty]; iempintro

/-- A credit is taken. -/
theorem credWait_step (g : Bool) (m i : ℕ) (hi : i ≤ 1) (l : List (Pay nD τ sig)) (hl : ∀ x ∈ l, Over (2 + i) x) :
    iprop(ctx A K ιs ∗ own c l ∗ credAt c g m ∗ cred (tallyAt (cell (.credit g) c) i 1))
      ⊢ iprop((iprop(own c l ∗ credAt c g (m + 1)) -∗ Kt ⟨⟩) -∗ wpK c (semWaitWord (credS g) 1#32) Kt) := by
  unfold own credAt
  iintro ⟨#HI, ⟨%W, HO⟩, ⟨%T, %hT, Hat, #Hseen⟩, Hc⟩ Hk
  iapply (wp_wait 𝒱₀ ER (Rd A) (c : Thread nD τ) none (sm := .reg (credS g)) (k' := 1) (κ := K (cell (.credit g) c)) (wpE_semWait_eq 𝒱₀ (c : Thread nD τ) none Set.univ) (Set.mem_univ _)
    (cr := Finsupp.single i 1) (O := tallyL l) (W := W) {((SemLoc.reg (credS g) : SemLoc sig), i)} (R := 0) (m := m) (T := T) (Util.total_single _ _) (image_single_subset _ _ _)) $$ [HO Hat Hc]
  · isplitr; · iapply (ctx_cell A (.credit g) c); iexact HI
    isplitl [Hc]; · iexact Hc
    isplitl [HO]; · iexact HO
    isplitr; · iapply (mayWait c (.credit g) i (2 + i) hi (Nat.le_refl _) l hl); iapply (ctx_levs A); iexact HI
    iexact Hat
  iintro %S ⟨%hS, HO, Hat, Hp⟩
  obtain ⟨hTS, hSD, hle⟩ := hS
  rw [show ((c : Thread nD τ), SemLoc.reg (credS g)) = cell (.credit g) c from rfl, Rd_expect, Rd_duties, Finset.card_sdiff_of_subset (by
    rw [show ((c : Thread nD τ), SemLoc.reg (credS g)) = cell (.credit g) c from rfl, Rd_duties] at hSD; exact hSD)] at hle
  have hcard : S.card ≤ 4 := by simpa using Finset.card_le_univ S
  have h4 : (dutiesR (.credit g) 0).card = 4 := rfl
  rw [h4, show amountR (.credit g) = 1 from rfl] at hle
  iapply ret_step
  iapply Hk
  isplitl [HO]; · iexists _; iexact HO
  iexists S
  isplitr; · ipureintro; omega
  isplitl [Hat]; · iexact Hat
  have e : iprop((bigSep T fun d => credPay (F := F) c g d) ∗ bigSep (S \ T) fun d => (Rd A).payload ((c : Thread nD τ), SemLoc.reg (credS g)) 0 d)
      ⊢ bigSep S fun d => credPay c g d := by
    rw [bigSep_congr (s := S \ T) (Φ := fun d => (Rd A).payload ((c : Thread nD τ), SemLoc.reg (credS g)) 0 d) (Ψ := fun d => credPay (F := F) c g d) (fun d _ => Rd_payload A c (.credit g) 0 d)]
    refine (Entails.of_eq (bigSep_union (Φ := fun d => credPay (F := F) c g d) Finset.disjoint_sdiff).symm).trans ?_
    rw [Finset.union_sdiff_of_subset hTS]
  iapply e
  isplitr; · iexact Hseen
  iexact Hp

/-- The last credit closes the round. -/
theorem credLast_step (g : Bool) (i : ℕ) (hi : i ≤ 1) (l : List (Pay nD τ sig)) (hl : ∀ x ∈ l, Over (2 + i) x) :
    iprop(ctx A K ιs ∗ own c l ∗ credAt c g 3 ∗ cred (tallyAt (cell (.credit g) c) i 1))
      ⊢ iprop((iprop(own c l ∗ atPos ER (cell (.credit g) c) 1 ∅ 0) -∗ Kt ⟨⟩) -∗ wpK c (semWaitWord (credS g) 1#32) Kt) := by
  unfold own credAt
  iintro ⟨#HI, ⟨%W, HO⟩, ⟨%T, %hT, Hat, #Hseen⟩, Hc⟩ Hk
  iapply (wp_wait_rest_token 𝒱₀ ER (Rd A) (c : Thread nD τ) none (sm := .reg (credS g)) (k' := 1) (κ := K (cell (.credit g) c)) (wpE_semWait_eq 𝒱₀ (c : Thread nD τ) none Set.univ) (Set.mem_univ _) i
    (O := tallyL l) (W := W) (R := 0) (m := 3) (T := T) (by rw [show ((c : Thread nD τ), SemLoc.reg (credS g)) = cell (.credit g) c from rfl, Rd_expect]; rfl)) $$ [HO Hat Hc]
  · isplitr; · iapply (ctx_cell A (.credit g) c); iexact HI
    isplitl [Hc]; · iexact Hc
    isplitl [HO]; · iexact HO
    isplitr; · iapply (mayWait c (.credit g) i (2 + i) hi (Nat.le_refl _) l hl); iapply (ctx_levs A); iexact HI
    iexact Hat
  iintro ⟨HO, Hat, -, -⟩
  iapply ret_step
  iapply Hk
  isplitl [HO]; · iexists _; iexact HO
  iexact Hat

/-- One credit taken: the next device's slot 0 has been released. -/
theorem credAt_one (g : Bool) : credAt (F := F) c g 1 ⊢ iprop(credAt c g 1 ∗ Release.released ES ((nxt g c, g, 0) : Key) 1) := by
  unfold credAt
  iintro ⟨%S, %hS, Hat, #Hseen⟩
  obtain ⟨d, hd⟩ := Finset.card_pos.mp hS
  have e : (bigSep S fun d => credPay (F := F) c g d) ⊢ Release.released ES ((nxt g c, g, 0) : Key) 1 := by
    refine (Release.heard_elim (fun d => credPay (F := F) c g d) hd).trans ?_
    unfold credPay
    by_cases h : d.val < 2
    · rw [if_pos h]
    · rw [if_neg h]; iintro ⟨H, -⟩; iexact H
  isplitl [Hat]
  · iexists S
    isplitr; · ipureintro; exact hS
    isplitl [Hat]; · iexact Hat
    iexact Hseen
  iapply e
  iexact Hseen

/-- Three credits taken: the next device's slot 1 has been released. -/
theorem credAt_three (g : Bool) : credAt (F := F) c g 3 ⊢ iprop(credAt c g 3 ∗ Release.released ES ((nxt g c, g, 1) : Key) 1) := by
  unfold credAt
  iintro ⟨%S, %hS, Hat, #Hseen⟩
  obtain ⟨d, hd, hd2⟩ : ∃ d ∈ S, ¬d.val < 2 := by
    by_contra hne
    push Not at hne
    have hsub : S ⊆ ({0, 1} : Finset (Fin 4)) := fun d hd => by
      exact (by decide : ∀ d : Fin 4, d.val < 2 → d ∈ ({0, 1} : Finset (Fin 4))) d (hne d hd)
    exact absurd (hS.trans (Finset.card_le_card hsub)) (by decide)
  have e : (bigSep S fun d => credPay (F := F) c g d) ⊢ Release.released ES ((nxt g c, g, 1) : Key) 1 := by
    refine (Release.heard_elim (fun d => credPay (F := F) c g d) hd).trans ?_
    unfold credPay
    rw [if_neg hd2]; iintro ⟨-, H⟩; iexact H
  isplitl [Hat]
  · iexists S
    isplitr; · ipureintro; exact hS
    isplitl [Hat]; · iexact Hat
    iexact Hseen
  iapply e
  iexact Hseen

end Cert.K

end
-- ==== Proof.Hops.lean ====
/-
# The hops

A hop is four transfers, one partial product of each ring made while they are under way, and the waits for the sources. After it
come the credits and the additions, or at the last hop the additions and the stores to the result. Each is stated once for a
symbolic device; the hops differ only in how a transfer gets hold of the slot it goes to.
-/
module

public import proofs.«01_k».proof.Proof.Credits

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ} (c : Dev nD) {Kt : PUnit → sProp (MM F)}

/-- Something for each ring and each sub-block, in the order the kernel goes through them. -/
def four (Φ : Bool → Fin 2 → sProp (MM F)) : sProp (MM F) := iprop(Φ false 0 ∗ Φ true 0 ∗ Φ false 1 ∗ Φ true 1)

/-! ## Additions -/

/-- What the wait for a transfer in needs. -/
def recvWait (g : Bool) (h : Fin 3) (q : Fin 2) : sProp (MM F) :=
  iprop(atPos ER (cell (.recv g h q) c) 0 ∅ 0 ∗ cred (tallyAt (cell (.recv g h q) c) 0 NB))
/-- The receive cell past its round. -/
def recvDone (g : Bool) (h : Fin 3) (q : Fin 2) : sProp (MM F) := atPos ER (cell (.recv g h q) c) 1 ∅ 0
/-- The send cell before and past its round. -/
def sendWait (g : Bool) (h : Fin 3) (q : Fin 2) : sProp (MM F) := atPos ER (cell (.send g h q) c) 0 ∅ 0
def sendDone (g : Bool) (h : Fin 3) (q : Fin 2) : sProp (MM F) := atPos ER (cell (.send g h q) c) 1 ∅ 0

/-- A sub-block comes in, this device's partial product is added, and it is ready for the next hop. -/
theorem accOne_step (g : Bool) (h : Fin 3) (q : Fin 2) (l : List (Pay nD τ sig)) (hl : ∀ x ∈ l, Over (2 + h.val) x) :
    iprop(ctx A K ιs ∗ own c l ∗ recvWait c g h q ∗ blk (pM g) c Finset.univ (PP A g (h.val + 1) c))
      ⊢ iprop((iprop(own c l ∗ recvDone c g h q ∗ blk (pM g) c Finset.univ (PP A g (h.val + 1) c)
            ∗ blk (cM g) c (rC (dl h) q).set (lift (XX A g (h.val + 1) c))) -∗ Kt ⟨⟩)
          -∗ wpK c (accOne g h (sl h) (dl h) q) Kt) := by
  unfold accOne recvWait recvDone
  iintro ⟨#HI, HO, ⟨Hat, Hc⟩, Hp⟩ Hk
  rw [wpK_bind]
  iapply (waitRecv_step A c g h q l hl) $$ [HO Hat Hc]
  · isplitr; · iexact HI
    isplitl [HO]; · iexact HO
    isplitl [Hat] <;> iassumption
  iintro ⟨HO, Hat, Hb⟩
  unfold recvPay
  rw [wpK_bind]
  iapply (accRow_step A c g h.val (dl h) q 0 _ (fun _ _ => rfl)) $$ [Hp Hb]
  · isplitl [Hp] <;> iassumption
  iintro ⟨Hp, Hb⟩
  iapply (accRow_step A c g h.val (dl h) q 1 (row3 1 (0 : Fin 2).val (lift (XX A g (h.val + 1) c)) (lift (XX A g h.val (prv g c)))) (fun i hi => row3_ne (by rw [hi]; decide))) $$ [Hp Hb]
  · isplitl [Hp]; · iexact Hp
    iexact Hb
  iintro ⟨Hp, Hb⟩
  ihave Hb := (Entails.of_eq (congrArg (blk (cM g) c (rC (dl h) q).set) (row3_fin (s := S2x2x512x2048) (a := 1) rfl (lift (XX A g (h.val + 1) c)) _))) $$ Hb
  iapply Hk
  isplitl [HO]; · iexact HO
  isplitl [Hat]; · iexact Hat
  isplitl [Hp] <;> iassumption

/-- What a store to the result needs. -/
def storeTok (g : Bool) (q : Fin 2) : sProp (MM F) := iprop(dutyTok ER (cell (.store q g) c) 0 0 ∗ reached ER (cell (.store q g) c) 0)

/-- The last hop's sub-block comes in, is added, and its store to the result begins. -/
theorem finOne_step (g : Bool) (q : Fin 2) :
    iprop(ctx A K ιs ∗ own c [] ∗ recvWait c g 2 q ∗ blk (pM g) c (rPh q).set (PP A g 3 c) ∗ anyBlk outM c (rO q g).set ∗ storeTok c g q)
      ⊢ iprop((iprop(own c [] ∗ recvDone c g 2 q ∗ anyBlk (cM g) c (rC 1 q).set ∗ cred (tallyAt (cell (.store q g) c) 0 NS)) -∗ Kt ⟨⟩)
          -∗ wpK c (finOne g 2 0 1 q) Kt) := by
  unfold finOne recvWait recvDone storeTok
  iintro ⟨#HI, HO, ⟨Hat, Hc⟩, Hp, Ho, Htok, Hr⟩ Hk
  rw [wpK_bind]
  iapply (waitRecv_step A c g 2 q [] (fun x hx => absurd hx List.not_mem_nil)) $$ [HO Hat Hc]
  · isplitr; · iexact HI
    isplitl [HO]; · iexact HO
    isplitl [Hat] <;> iassumption
  iintro ⟨HO, Hat, Hb⟩
  unfold recvPay
  rw [wpK_bind]
  iapply (finRow_step A c g 1 q 0 _ (fun _ _ => rfl)) $$ [Hp Hb]
  · isplitl [Hp]; · iexact Hp
    iexact Hb
  iintro ⟨Hp, Hb⟩
  rw [wpK_bind]
  iapply (finRow_step A c g 1 q 1 (row3 0 (0 : Fin 2).val (ZZ A g c) (PP A g 3 c)) (fun i hi => row3_ne (by rw [hi]; decide))) $$ [Hp Hb]
  · isplitl [Hp]; · iexact Hp
    iexact Hb
  iintro ⟨Hp, Hb⟩
  ihave Hp := (Entails.of_eq (congrArg (blk (pM g) c (rPh q).set) (row3_fin (s := S2x512x2048) (a := 0) rfl (ZZ A g c) (PP A g 3 c)))) $$ Hp
  iapply (storeOut_step A c g q) $$ [Hp Ho Htok Hr]
  · isplitr; · iexact HI
    isplitl [Hp]; · iexact Hp
    isplitl [Ho]; · iexact Ho
    isplitl [Htok] <;> iassumption
  iintro Hc
  iapply Hk
  isplitl [HO]; · iexact HO
  isplitl [Hat]; · iexact Hat
  isplitl [Hb]; · iapply (blk_any (M := cM g)); iexact Hb
  iexact Hc

/-- The two credits and the four additions after a hop. -/
theorem addUp_step (h : Fin 3) (d d' : Fin 4) (l : List (Pay nD τ sig)) (hl : ∀ x ∈ l, Over (2 + h.val) x) :
    iprop(ctx A K ιs ∗ own c (dueCreds h.val c ++ l) ∗ (credGive c false d d' ∗ credGive c true d d') ∗ four (fun g q => recvWait c g h q)
        ∗ blk (pM false) c Finset.univ (PP A false (h.val + 1) c) ∗ blk (pM true) c Finset.univ (PP A true (h.val + 1) c))
      ⊢ iprop((iprop(own c l ∗ four (fun g q => recvDone c g h q)
            ∗ (blk (pM false) c Finset.univ (PP A false (h.val + 1) c) ∗ blk (pM true) c Finset.univ (PP A true (h.val + 1) c))
            ∗ four (fun g q => blk (cM g) c (rC (dl h) q).set (lift (XX A g (h.val + 1) c)))) -∗ Kt ⟨⟩)
          -∗ wpK c (addUp h (sl h) (dl h) (prv false c) (prv true c)) Kt) := by
  unfold addUp four
  iintro ⟨#HI, HO, ⟨Hg0, Hg1⟩, ⟨R0, R1, R2, R3⟩, P0, P1⟩ Hk
  rw [wpK_bind]
  iapply (credSignal_step A c false h.val d d' ((cell (.credit true) (prv true c), h.val, 2) :: l)) $$ [HO Hg0]
  · isplitr; · iexact HI
    isplitl [HO]; · iexact HO
    iexact Hg0
  iintro HO
  rw [wpK_bind]
  iapply (credSignal_step A c true h.val d d' l) $$ [HO Hg1]
  · isplitr; · iexact HI
    isplitl [HO]; · iexact HO
    iexact Hg1
  iintro HO
  rw [wpK_bind]
  iapply (accOne_step A c false h 0 l hl) $$ [HO R0 P0]
  · isplitr; · iexact HI
    isplitl [HO]; · iexact HO
    isplitl [R0] <;> iassumption
  iintro ⟨HO, R0, P0, B0⟩
  rw [wpK_bind]
  iapply (accOne_step A c true h 0 l hl) $$ [HO R1 P1]
  · isplitr; · iexact HI
    isplitl [HO]; · iexact HO
    isplitl [R1] <;> iassumption
  iintro ⟨HO, R1, P1, B1⟩
  rw [wpK_bind]
  iapply (accOne_step A c false h 1 l hl) $$ [HO R2 P0]
  · isplitr; · iexact HI
    isplitl [HO]; · iexact HO
    isplitl [R2] <;> iassumption
  iintro ⟨HO, R2, P0, B2⟩
  iapply (accOne_step A c true h 1 l hl) $$ [HO R3 P1]
  · isplitr; · iexact HI
    isplitl [HO]; · iexact HO
    isplitl [R3] <;> iassumption
  iintro ⟨HO, R3, P1, B3⟩
  iapply Hk
  isplitl [HO]; · iexact HO
  isplitl [R0 R1 R2 R3]
  · isplitl [R0]; · iexact R0
    isplitl [R1]; · iexact R1
    isplitl [R2] <;> iassumption
  isplitl [P0 P1]; · isplitl [P0] <;> iassumption
  isplitl [B0]; · iexact B0
  isplitl [B1]; · iexact B1
  isplitl [B2] <;> iassumption

/-! ## The waits for the sources -/

/-- What the wait for a transfer out needs. -/
def sendOut (g : Bool) (h : Fin 3) (q : Fin 2) : sProp (MM F) := iprop(sendWait c g h q ∗ cred (tallyAt (cell (.send g h q) c) 0 NB))

theorem waitSends_step (h : Fin 3) (l : List (Pay nD τ sig)) (hl : ∀ x ∈ l, Over 0 x) :
    iprop(ctx A K ιs ∗ own c l ∗ four (fun g q => sendOut c g h q))
      ⊢ iprop((iprop(own c l ∗ four (fun g q => sendDone c g h q) ∗ four (fun g q => sendPay A c g h q)) -∗ Kt ⟨⟩)
          -∗ wpK c (waitSends h (sl h) (dl h)) Kt) := by
  unfold waitSends four sendOut sendWait sendDone
  iintro ⟨#HI, HO, ⟨A0, C0⟩, ⟨A1, C1⟩, ⟨A2, C2⟩, A3, C3⟩ Hk
  rw [wpK_bind]
  iapply (waitSend_step A c false h 0 l hl) $$ [HO A0 C0]
  · isplitr; · iexact HI
    isplitl [HO]; · iexact HO
    isplitl [A0] <;> iassumption
  iintro ⟨HO, A0, B0⟩
  rw [wpK_bind]
  iapply (waitSend_step A c true h 0 l hl) $$ [HO A1 C1]
  · isplitr; · iexact HI
    isplitl [HO]; · iexact HO
    isplitl [A1] <;> iassumption
  iintro ⟨HO, A1, B1⟩
  rw [wpK_bind]
  iapply (waitSend_step A c false h 1 l hl) $$ [HO A2 C2]
  · isplitr; · iexact HI
    isplitl [HO]; · iexact HO
    isplitl [A2] <;> iassumption
  iintro ⟨HO, A2, B2⟩
  iapply (waitSend_step A c true h 1 l hl) $$ [HO A3 C3]
  · isplitr; · iexact HI
    isplitl [HO]; · iexact HO
    isplitl [A3] <;> iassumption
  iintro ⟨HO, A3, B3⟩
  iapply Hk
  isplitl [HO]; · iexact HO
  isplitl [A0 A1 A2 A3]
  · isplitl [A0]; · iexact A0
    isplitl [A1]; · iexact A1
    isplitl [A2] <;> iassumption
  isplitl [B0]; · iexact B0
  isplitl [B1]; · iexact B1
  isplitl [B2] <;> iassumption

/-! ## A hop -/

/-- The operands and the staging buffer. -/
def mem (wM : Memref sig .tc .vmem S1024x4096 .bf16) : sProp (MM F) :=
  iprop(blk oM c Finset.univ (A.o c) ∗ anyBlk stM c Finset.univ ∗ blk wM c Finset.univ (A.w c))

/-- The two partial products before hop `n`. -/
theorem partials_step (wM : Memref sig .tc .vmem S1024x4096 .bf16) (n : ℕ) (hn : n < 4) (l : List (Pay nD τ sig)) (hl : ∀ x ∈ l, Over 0 x)
    (o1 o2 : Fin 3 → ℕ) (ho1 : ∀ a, o1 a + S2x512x1024.size a ≤ S2x2048x1024.size a) (ho2 : ∀ a, o2 a + S2x512x1024.size a ≤ S2x2048x1024.size a)
    (e1 : o1 = offC (behind false n c)) (e2 : o2 = offC (behind true n c)) {α : Type} {Q : α → sProp (MM F)} (k : P (F := F) α) :
    iprop(ctx A K ιs ∗ own c l ∗ loadSt c (2 * n) ∗ (loadTok c (2 * n) ∗ loadTok c (2 * n + 1)) ∗ mem A c wM
        ∗ anyBlk (pM false) c Finset.univ ∗ anyBlk (pM true) c Finset.univ)
      ⊢ iprop((iprop(own c l ∗ loadSt c (2 * (n + 1)) ∗ mem A c wM ∗ blk (pM false) c Finset.univ (PP A false n c) ∗ blk (pM true) c Finset.univ (PP A true n c)) -∗ wpK c k Q)
          -∗ wpK c (partialOf wM false o1 ho1 >>= fun _ => partialOf wM true o2 ho2 >>= fun _ => k) Q) := by
  unfold mem
  iintro ⟨#HI, HO, Hl, ⟨T0, T1⟩, ⟨Ho, Hs, Hw⟩, P0, P1⟩ Hk
  rw [wpK_bind]
  iapply (partialOf_step A c wM false n hn l hl o1 ho1 e1) $$ [HO Hl T0 Ho Hs Hw P0]
  · isplitr; · iexact HI
    isplitl [HO]; · iexact HO
    isplitl [Hl]; · iexact Hl
    isplitl [T0]; · iexact T0
    isplitl [Ho]; · iexact Ho
    isplitl [Hs]; · iexact Hs
    isplitl [Hw] <;> iassumption
  iintro ⟨HO, Hl, Ho, Hs, Hw, P0⟩
  rw [wpK_bind]
  iapply (partialOf_step A c wM true n hn l hl o2 ho2 e2) $$ [HO Hl T1 Ho Hs Hw P1]
  · isplitr; · iexact HI
    isplitl [HO]; · iexact HO
    isplitl [Hl]; · iexact Hl
    isplitl [T1]; · iexact T1
    isplitl [Ho]; · iexact Ho
    isplitl [Hs]; · iexact Hs
    isplitl [Hw] <;> iassumption
  iintro ⟨HO, Hl, Ho, Hs, Hw, P1⟩
  iapply Hk
  isplitl [HO]; · iexact HO
  isplitl [Hl]; · iexact Hl
  isplitl [Ho Hs Hw]
  · isplitl [Ho]; · iexact Ho
    isplitl [Hs] <;> iassumption
  isplitl [P0] <;> iassumption

/-- How a transfer of hop `h` is begun: from state `R g q` to `R g (q + 1)`. -/
def Sends (K : GSem nD τ sig → ℕ) (ιs : Key → ℕ) (send : Bool → Fin 3 → Fin 2 → Fin 2 → Fin 2 → Dev nD → P (F := F) PUnit) (h : Fin 3) (R : Bool → Fin 3 → sProp (MM F)) : Prop :=
  ∀ (g : Bool) (q : Fin 2) (l : List (Pay nD τ sig)), (∀ x ∈ l, Over (1 + h.val) x) → ∀ Kt : PUnit → sProp (MM F),
    iprop(ctx A K ιs ∗ own c ((cell (.recv g h q) (nxt g c), 0, NB) :: l) ∗ R g q.castSucc)
      ⊢ iprop((iprop(own c l ∗ R g q.succ ∗ cred (tallyAt (cell (.send g h q) c) 0 NB)) -∗ Kt ⟨⟩) -∗ wpK c (send g h (sl h) (dl h) q (nxt g c)) Kt)

/-- A hop. -/
theorem hop_step (send : Bool → Fin 3 → Fin 2 → Fin 2 → Fin 2 → Dev nD → P (F := F) PUnit) (h : Fin 3) (R : Bool → Fin 3 → sProp (MM F))
    (hsend : Sends A c K ιs send h R) (wM : Memref sig .tc .vmem S1024x4096 .bf16) (l : List (Pay nD τ sig)) (hl : ∀ x ∈ l, Over (1 + h.val) x)
    (o1 o2 : Fin 3 → ℕ) (ho1 : ∀ a, o1 a + S2x512x1024.size a ≤ S2x2048x1024.size a) (ho2 : ∀ a, o2 a + S2x512x1024.size a ≤ S2x2048x1024.size a)
    (e1 : o1 = offC (behind false (h.val + 1) c)) (e2 : o2 = offC (behind true (h.val + 1) c)) :
    iprop(ctx A K ιs ∗ own c (dueSends h c ++ l) ∗ (R false 0 ∗ R true 0) ∗ four (fun g q => sendWait c g h q)
        ∗ loadSt c (2 * (h.val + 1)) ∗ (loadTok c (2 * (h.val + 1)) ∗ loadTok c (2 * (h.val + 1) + 1)) ∗ mem A c wM
        ∗ anyBlk (pM false) c Finset.univ ∗ anyBlk (pM true) c Finset.univ)
      ⊢ iprop((iprop(own c l ∗ (R false 2 ∗ R true 2) ∗ four (fun g q => sendDone c g h q) ∗ four (fun g q => sendPay A c g h q)
            ∗ loadSt c (2 * (h.val + 1 + 1)) ∗ mem A c wM ∗ blk (pM false) c Finset.univ (PP A false (h.val + 1) c) ∗ blk (pM true) c Finset.univ (PP A true (h.val + 1) c)) -∗ Kt ⟨⟩)
          -∗ wpK c (hop send wM h (sl h) (dl h) (nxt false c) (nxt true c) (nxt false c) (nxt true c) o1 o2 ho1 ho2) Kt) := by
  have hs := over_sends h c
  have h1 : ∀ x ∈ ((cell (.recv true h 1) (nxt true c), 0, NB) :: l), Over (1 + h.val) x := over_append (l := [_]) (fun x hx => hs x (by
    rw [List.mem_singleton.mp hx]; simp [dueSends])) hl
  have h2 : ∀ x ∈ ((cell (.recv false h 1) (nxt false c), 0, NB) :: (cell (.recv true h 1) (nxt true c), 0, NB) :: l), Over (1 + h.val) x :=
    over_append (l := [_]) (fun x hx => hs x (by rw [List.mem_singleton.mp hx]; simp [dueSends])) h1
  have h3 : ∀ x ∈ ((cell (.recv true h 0) (nxt true c), 0, NB) :: (cell (.recv false h 1) (nxt false c), 0, NB) :: (cell (.recv true h 1) (nxt true c), 0, NB) :: l), Over (1 + h.val) x :=
    over_append (l := [_]) (fun x hx => hs x (by rw [List.mem_singleton.mp hx]; simp [dueSends])) h2
  have s0 := fun g => hsend g 0
  have s1 := fun g => hsend g 1
  simp only [show Fin.castSucc (0 : Fin 2) = 0 from rfl, show Fin.succ (0 : Fin 2) = 1 from rfl] at s0
  simp only [show Fin.castSucc (1 : Fin 2) = 1 from rfl, show Fin.succ (1 : Fin 2) = 2 from rfl] at s1
  unfold hop
  iintro ⟨#HI, HO, ⟨R0, R1⟩, Hw, Hl, Ht, Hm, P0, P1⟩ Hk
  unfold four
  icases Hw with ⟨A0, A1, A2, A3⟩
  rw [wpK_bind]
  iapply (s0 false _ h3 _) $$ [HO R0]
  · isplitr; · iexact HI
    isplitl [HO]; · iexact HO
    iexact R0
  iintro ⟨HO, R0, C0⟩
  rw [wpK_bind]
  iapply (s0 true _ h2 _) $$ [HO R1]
  · isplitr; · iexact HI
    isplitl [HO]; · iexact HO
    iexact R1
  iintro ⟨HO, R1, C1⟩
  rw [wpK_bind]
  iapply (s1 false _ h1 _) $$ [HO R0]
  · isplitr; · iexact HI
    isplitl [HO]; · iexact HO
    iexact R0
  iintro ⟨HO, R0, C2⟩
  rw [wpK_bind]
  iapply (s1 true _ hl _) $$ [HO R1]
  · isplitr; · iexact HI
    isplitl [HO]; · iexact HO
    iexact R1
  iintro ⟨HO, R1, C3⟩
  iapply (partials_step A c wM (h.val + 1) (by omega) l (over_mono (Nat.zero_le _) hl) o1 o2 ho1 ho2 e1 e2) $$ [HO Hl Ht Hm P0 P1]
  · isplitr; · iexact HI
    isplitl [HO]; · iexact HO
    isplitl [Hl]; · iexact Hl
    isplitl [Ht]; · iexact Ht
    isplitl [Hm]; · iexact Hm
    isplitl [P0] <;> iassumption
  iintro ⟨HO, Hl, Hm, P0, P1⟩
  iapply (waitSends_step A c h l (over_mono (Nat.zero_le _) hl)) $$ [HO A0 A1 A2 A3 C0 C1 C2 C3]
  · isplitr; · iexact HI
    isplitl [HO]; · iexact HO
    unfold four sendOut
    isplitl [A0 C0]; · isplitl [A0]; · iexact A0
                       iexact C0
    isplitl [A1 C1]; · isplitl [A1]; · iexact A1
                       iexact C1
    isplitl [A2 C2]; · isplitl [A2]; · iexact A2
                       iexact C2
    isplitl [A3]; · iexact A3
    iexact C3
  unfold four
  iintro ⟨HO, HA, HB⟩
  iapply Hk
  isplitl [HO]; · iexact HO
  isplitl [R0 R1]; · isplitl [R0] <;> iassumption
  isplitl [HA]; · iexact HA
  isplitl [HB]; · iexact HB
  isplitl [Hl]; · iexact Hl
  isplitl [Hm]; · iexact Hm
  isplitl [P0] <;> iassumption

/-! ## How the transfers of a hop get hold of their slots -/

/-- The duties' tokens of a transfer. -/
def sendTok (g : Bool) (h : Fin 3) (q : Fin 2) : sProp (MM F) :=
  iprop((dutyTok ER (cell (.send g h q) c) 0 0 ∗ reached ER (cell (.send g h q) c) 0)
    ∗ (dutyTok ER (cell (.recv g h q) (nxt g c)) 0 0 ∗ reached ER (cell (.recv g h q) (nxt g c)) 0))

/-- A transfer with all it needs. -/
def ready (g : Bool) (h : Fin 3) (q : Fin 2) : sProp (MM F) := iprop(sendPay A c g h q ∗ sendTok c g h q)

theorem sendReady_step (g : Bool) (h : Fin 3) (q : Fin 2) (l : List (Pay nD τ sig)) :
    iprop(ctx A K ιs ∗ own c ((cell (.recv g h q) (nxt g c), 0, NB) :: l) ∗ ready A c g h q ∗ anyBlk (cM g) (nxt g c) (rC (dl h) q).set)
      ⊢ iprop((iprop(own c l ∗ cred (tallyAt (cell (.send g h q) c) 0 NB)) -∗ Kt ⟨⟩) -∗ wpK c (sendOne g h (sl h) (dl h) q (nxt g c)) Kt) := by
  unfold ready sendTok
  iintro ⟨#HI, HO, ⟨Hp, Ht⟩, Hb⟩ Hk
  iapply (sendOne_step A c g h q l) $$ [HO Hp Ht Hb] Hk
  isplitr; · iexact HI
  isplitl [HO]; · iexact HO
  isplitl [Hp]; · iexact Hp
  isplitl [Hb]; · iexact Hb
  iexact Ht

/-- The first hop's slots came with the handshake. -/
def R0 (g : Bool) : Fin 3 → sProp (MM F)
  | 0 => iprop((ready A c g 0 0 ∗ anyBlk (cM g) (nxt g c) (rC 1 0).set) ∗ (ready A c g 0 1 ∗ anyBlk (cM g) (nxt g c) (rC 1 1).set))
  | 1 => iprop(ready A c g 0 1 ∗ anyBlk (cM g) (nxt g c) (rC 1 1).set)
  | 2 => iprop(emp)

theorem sends0 : Sends A c K ιs sendOne 0 (R0 A c) := by
  intro g q l hl Kt
  match q with
  | 0 =>
    show iprop(ctx A K ιs ∗ own c _ ∗ (ready A c g 0 0 ∗ anyBlk (cM g) (nxt g c) (rC 1 0).set) ∗ (ready A c g 0 1 ∗ anyBlk (cM g) (nxt g c) (rC 1 1).set))
      ⊢ iprop((iprop(own c l ∗ (ready A c g 0 1 ∗ anyBlk (cM g) (nxt g c) (rC 1 1).set) ∗ _) -∗ Kt ⟨⟩) -∗ _)
    iintro ⟨#HI, HO, H0, H1⟩ Hk
    iapply (sendReady_step A c g 0 0 l) $$ [HO H0]
    · isplitr; · iexact HI
      isplitl [HO]; · iexact HO
      iexact H0
    iintro ⟨HO, Hc⟩
    iapply Hk
    isplitl [HO]; · iexact HO
    isplitl [H1]; · iexact H1
    iexact Hc
  | 1 =>
    show iprop(ctx A K ιs ∗ own c _ ∗ (ready A c g 0 1 ∗ anyBlk (cM g) (nxt g c) (rC 1 1).set))
      ⊢ iprop((iprop(own c l ∗ emp ∗ _) -∗ Kt ⟨⟩) -∗ _)
    iintro ⟨#HI, HO, H1⟩ Hk
    iapply (sendReady_step A c g 0 1 l) $$ [HO H1]
    · isplitr; · iexact HI
      isplitl [HO]; · iexact HO
      iexact H1
    iintro ⟨HO, Hc⟩
    iapply Hk
    isplitl [HO]; · iexact HO
    isplitr; · iempintro
    iexact Hc

/-- The second hop's slots come with the first credits. -/
def R1 (g : Bool) : Fin 3 → sProp (MM F)
  | 0 => iprop((ready A c g 1 0 ∗ ready A c g 1 1) ∗ credAt c g 0 ∗ (cred (tallyAt (cell (.credit g) c) 0 1) ∗ cred (tallyAt (cell (.credit g) c) 0 1))
      ∗ Release.writeTok ES ((nxt g c, g, 0) : Key) 1)
  | 1 => iprop((ready A c g 1 1 ∗ anyBlk (cM g) (nxt g c) (rC 0 1).set) ∗ credAt c g 1 ∗ cred (tallyAt (cell (.credit g) c) 0 1))
  | 2 => credAt c g 2

theorem sends1 : Sends A c K ιs sendCred 1 (R1 A c) := by
  intro g q l hl Kt
  have hl' : ∀ x ∈ ((cell (.recv g 1 q) (nxt g c), 0, NB) :: l), Over (2 + 0) x :=
    over_append (l := [_]) (fun x hx => by rw [List.mem_singleton.mp hx]; exact ⟨_, _, rfl, Nat.zero_le _, Nat.lt_succ_self _⟩) hl
  match q with
  | 0 =>
    show iprop(ctx A K ιs ∗ own c _ ∗ (ready A c g 1 0 ∗ ready A c g 1 1) ∗ credAt c g 0
        ∗ (cred (tallyAt (cell (.credit g) c) 0 1) ∗ cred (tallyAt (cell (.credit g) c) 0 1)) ∗ Release.writeTok ES ((nxt g c, g, 0) : Key) 1)
      ⊢ iprop((iprop(own c l ∗ ((ready A c g 1 1 ∗ anyBlk (cM g) (nxt g c) (rC 0 1).set) ∗ credAt c g 1 ∗ cred (tallyAt (cell (.credit g) c) 0 1)) ∗ _) -∗ Kt ⟨⟩) -∗ _)
    iintro ⟨#HI, HO, ⟨H0, H1⟩, Hcr, ⟨C0, C1⟩, Hw⟩ Hk
    unfold sendCred
    rw [wpK_bind]
    iapply (credWait_step A c g 0 0 (Nat.zero_le _) _ hl') $$ [HO Hcr C0]
    · isplitr; · iexact HI
      isplitl [HO]; · iexact HO
      isplitl [Hcr] <;> iassumption
    iintro ⟨HO, Hcr⟩
    ihave Hcr := (credAt_one c g) $$ Hcr
    icases Hcr with ⟨Hcr, Hrel⟩
    imod (take_step A ((nxt g c, g, 0) : Key)) $$ [Hrel Hw] with HS
    · isplitr; · iexact HI
      isplitl [Hrel] <;> iassumption
    unfold keySlot anySlot slotSet
    ihave HS := (any_split (rC_disjoint 0)) $$ HS
    icases HS with ⟨S0, S1⟩
    iapply (sendReady_step A c g 1 0 l) $$ [HO H0 S0]
    · isplitr; · iexact HI
      isplitl [HO]; · iexact HO
      isplitl [H0]; · iexact H0
      iexact S0
    iintro ⟨HO, Hc⟩
    iapply Hk
    isplitl [HO]; · iexact HO
    isplitl [H1 S1 Hcr C1]
    · isplitl [H1 S1]; · isplitl [H1] <;> iassumption
      isplitl [Hcr]; · iexact Hcr
      iexact C1
    iexact Hc
  | 1 =>
    show iprop(ctx A K ιs ∗ own c _ ∗ (ready A c g 1 1 ∗ anyBlk (cM g) (nxt g c) (rC 0 1).set) ∗ credAt c g 1 ∗ cred (tallyAt (cell (.credit g) c) 0 1))
      ⊢ iprop((iprop(own c l ∗ credAt c g 2 ∗ _) -∗ Kt ⟨⟩) -∗ _)
    iintro ⟨#HI, HO, H1, Hcr, C0⟩ Hk
    unfold sendCred
    rw [wpK_bind]
    iapply (credWait_step A c g 1 0 (Nat.zero_le _) _ hl') $$ [HO Hcr C0]
    · isplitr; · iexact HI
      isplitl [HO]; · iexact HO
      isplitl [Hcr] <;> iassumption
    iintro ⟨HO, Hcr⟩
    iapply (sendReady_step A c g 1 1 l) $$ [HO H1]
    · isplitr; · iexact HI
      isplitl [HO]; · iexact HO
      iexact H1
    iintro ⟨HO, Hc⟩
    iapply Hk
    isplitl [HO]; · iexact HO
    isplitl [Hcr]; · iexact Hcr
    iexact Hc

/-- The last hop's slots come with the second credits. -/
def R2 (g : Bool) : Fin 3 → sProp (MM F)
  | 0 => iprop((ready A c g 2 0 ∗ ready A c g 2 1) ∗ credAt c g 2 ∗ (cred (tallyAt (cell (.credit g) c) 1 1) ∗ cred (tallyAt (cell (.credit g) c) 1 1))
      ∗ Release.writeTok ES ((nxt g c, g, 1) : Key) 1)
  | 1 => iprop((ready A c g 2 1 ∗ anyBlk (cM g) (nxt g c) (rC 1 1).set) ∗ credAt c g 3 ∗ cred (tallyAt (cell (.credit g) c) 1 1))
  | 2 => atPos ER (cell (.credit g) c) 1 ∅ 0

theorem sends2 : Sends A c K ιs sendCred 2 (R2 A c) := by
  intro g q l hl Kt
  have hl' : ∀ x ∈ ((cell (.recv g 2 q) (nxt g c), 0, NB) :: l), Over (2 + 1) x :=
    over_append (l := [_]) (fun x hx => by rw [List.mem_singleton.mp hx]; exact ⟨_, _, rfl, Nat.zero_le _, Nat.lt_succ_self _⟩) hl
  match q with
  | 0 =>
    show iprop(ctx A K ιs ∗ own c _ ∗ (ready A c g 2 0 ∗ ready A c g 2 1) ∗ credAt c g 2
        ∗ (cred (tallyAt (cell (.credit g) c) 1 1) ∗ cred (tallyAt (cell (.credit g) c) 1 1)) ∗ Release.writeTok ES ((nxt g c, g, 1) : Key) 1)
      ⊢ iprop((iprop(own c l ∗ ((ready A c g 2 1 ∗ anyBlk (cM g) (nxt g c) (rC 1 1).set) ∗ credAt c g 3 ∗ cred (tallyAt (cell (.credit g) c) 1 1)) ∗ _) -∗ Kt ⟨⟩) -∗ _)
    iintro ⟨#HI, HO, ⟨H0, H1⟩, Hcr, ⟨C0, C1⟩, Hw⟩ Hk
    unfold sendCred
    rw [wpK_bind]
    iapply (credWait_step A c g 2 1 (Nat.le_refl _) _ hl') $$ [HO Hcr C0]
    · isplitr; · iexact HI
      isplitl [HO]; · iexact HO
      isplitl [Hcr] <;> iassumption
    iintro ⟨HO, Hcr⟩
    ihave Hcr := (credAt_three c g) $$ Hcr
    icases Hcr with ⟨Hcr, Hrel⟩
    imod (take_step A ((nxt g c, g, 1) : Key)) $$ [Hrel Hw] with HS
    · isplitr; · iexact HI
      isplitl [Hrel] <;> iassumption
    unfold keySlot anySlot slotSet
    ihave HS := (any_split (rC_disjoint 1)) $$ HS
    icases HS with ⟨S0, S1⟩
    iapply (sendReady_step A c g 2 0 l) $$ [HO H0 S0]
    · isplitr; · iexact HI
      isplitl [HO]; · iexact HO
      isplitl [H0]; · iexact H0
      iexact S0
    iintro ⟨HO, Hc⟩
    iapply Hk
    isplitl [HO]; · iexact HO
    isplitl [H1 S1 Hcr C1]
    · isplitl [H1 S1]; · isplitl [H1] <;> iassumption
      isplitl [Hcr]; · iexact Hcr
      iexact C1
    iexact Hc
  | 1 =>
    show iprop(ctx A K ιs ∗ own c _ ∗ (ready A c g 2 1 ∗ anyBlk (cM g) (nxt g c) (rC 1 1).set) ∗ credAt c g 3 ∗ cred (tallyAt (cell (.credit g) c) 1 1))
      ⊢ iprop((iprop(own c l ∗ atPos ER (cell (.credit g) c) 1 ∅ 0 ∗ _) -∗ Kt ⟨⟩) -∗ _)
    iintro ⟨#HI, HO, H1, Hcr, C0⟩ Hk
    unfold sendCred
    rw [wpK_bind]
    iapply (credLast_step A c g 1 (Nat.le_refl _) _ hl') $$ [HO Hcr C0]
    · isplitr; · iexact HI
      isplitl [HO]; · iexact HO
      isplitl [Hcr] <;> iassumption
    iintro ⟨HO, Hcr⟩
    iapply (sendReady_step A c g 2 1 l) $$ [HO H1]
    · isplitr; · iexact HI
      isplitl [HO]; · iexact HO
      iexact H1
    iintro ⟨HO, Hc⟩
    iapply Hk
    isplitl [HO]; · iexact HO
    isplitl [Hcr]; · iexact Hcr
    iexact Hc

end Cert.K

end
-- ==== Proof.Run.lean ====
/-
# One device's run

The body of the kernel on a symbolic device, from what the launch gives it to what it gives back.
-/
module

public import proofs.«01_k».proof.Proof.Hops

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ} (c : Dev nD) {Kt : PUnit → sProp (MM F)}

/-! ## The devices and the row blocks the kernel computes -/

theorem dev_eq (g : Bool) {m : ℕ} (h : m < nD) (e : m = (nxt g c).val) : (⟨m, h⟩ : Dev nD) = nxt g c := Fin.ext e

theorem dev1_eq : ∀ c : Dev nD, k0_dev1 c = (prv false c).val := by decide
theorem dev2_eq : ∀ c : Dev nD, k0_dev2 c = (prv true c).val := by decide
theorem devF_eq : ∀ c : Dev nD, k0_dev3 c = (nxt false c).val ∧ k0_dev5 c = (nxt false c).val ∧ k0_dev9 c = (nxt false c).val ∧ k0_dev11 c = (nxt false c).val
    ∧ k0_dev15 c = (nxt false c).val ∧ k0_dev17 c = (nxt false c).val ∧ k0_dev8 c = (nxt false c).val ∧ k0_dev14 c = (nxt false c).val := by decide
theorem devT_eq : ∀ c : Dev nD, k0_dev4 c = (nxt true c).val ∧ k0_dev6 c = (nxt true c).val ∧ k0_dev10 c = (nxt true c).val ∧ k0_dev12 c = (nxt true c).val
    ∧ k0_dev16 c = (nxt true c).val ∧ k0_dev18 c = (nxt true c).val ∧ k0_dev7 c = (nxt true c).val ∧ k0_dev13 c = (nxt true c).val := by decide

theorem off0_eq : ∀ c : Dev nD, k0_off1 c 4#32 1#32 = offC (behind false 0 c) ∧ k0_off2 c = offC (behind true 0 c) := by decide
theorem off1_eq : ∀ c : Dev nD, k0_off1 c 2#32 0#32 = offC (behind false 1 c) ∧ k0_off3 c 0#32 = offC (behind true 1 c) := by decide
theorem off2_eq : ∀ c : Dev nD, k0_off1 c 2#32 1#32 = offC (behind false 2 c) ∧ k0_off3 c 1#32 = offC (behind true 2 c) := by decide
theorem off3_eq : ∀ c : Dev nD, k0_off1 c 2#32 2#32 = offC (behind false 3 c) ∧ k0_off3 c 2#32 = offC (behind true 3 c) := by decide

/-- The body with the devices named by the rings. -/
def progC (wM : Memref sig .tc .vmem S1024x4096 .bf16) (c : Dev nD) : P (F := F) PUnit := do
  handshake (prv false c) (prv true c)
  partialOf wM false (k0_off1 c 4#32 1#32) (k0_off1_inb c 0)
  partialOf wM true (k0_off2 c) (k0_off2_inb c)
  castRow false 0
  castRow true 0
  castRow false 1
  castRow true 1
  hop sendOne wM 0 0 1 (nxt false c) (nxt true c) (nxt false c) (nxt true c) (k0_off1 c 2#32 0#32) (k0_off3 c 0#32) (k0_off1_inb c 1) (k0_off3_inb c 0)
  addUp 0 0 1 (prv false c) (prv true c)
  hop sendCred wM 1 1 0 (nxt false c) (nxt true c) (nxt false c) (nxt true c) (k0_off1 c 2#32 1#32) (k0_off3 c 1#32) (k0_off1_inb c 2) (k0_off3_inb c 1)
  addUp 1 1 0 (prv false c) (prv true c)
  hop sendCred wM 2 0 1 (nxt false c) (nxt true c) (nxt false c) (nxt true c) (k0_off1 c 2#32 2#32) (k0_off3 c 2#32) (k0_off1_inb c 3) (k0_off3_inb c 2)
  finOne false 2 0 1 0
  finOne true 2 0 1 0
  finOne false 2 0 1 1
  finOne true 2 0 1 1
  waitStore false 0
  waitStore true 0
  waitStore false 1
  waitStore true 1

theorem progAt_eq (wM : Memref sig .tc .vmem S1024x4096 .bf16) : progAt (F := F) wM c = progC wM c := by
  obtain ⟨h3, h5, h9, h11, h15, h17, h8, h14⟩ := devF_eq c
  obtain ⟨h4, h6, h10, h12, h16, h18, h7, h13⟩ := devT_eq c
  unfold progAt progC
  rw [dev_eq c true (k0_dev1_lt c) (dev1_eq c), dev_eq c false (k0_dev2_lt c) (dev2_eq c),
    dev_eq c false (k0_dev3_lt c) h3, dev_eq c false (k0_dev5_lt c) h5, dev_eq c false (k0_dev9_lt c) h9, dev_eq c false (k0_dev11_lt c) h11,
    dev_eq c false (k0_dev15_lt c) h15, dev_eq c false (k0_dev17_lt c) h17, dev_eq c false (k0_dev8_lt c) h8, dev_eq c false (k0_dev14_lt c) h14,
    dev_eq c true (k0_dev4_lt c) h4, dev_eq c true (k0_dev6_lt c) h6, dev_eq c true (k0_dev10_lt c) h10, dev_eq c true (k0_dev12_lt c) h12,
    dev_eq c true (k0_dev16_lt c) h16, dev_eq c true (k0_dev18_lt c) h18, dev_eq c true (k0_dev7_lt c) h7, dev_eq c true (k0_dev13_lt c) h13]
  rfl

/-! ## Getting a hop's transfers ready -/

/-- The receive cells of the next device are at their round. -/
def nextRecv (g : Bool) : sProp (MM F) := bigSep (Finset.univ : Finset (Fin 3 × Fin 2)) fun x => reached ER (cell (.recv g x.1 x.2) (nxt g c)) 0

instance nextRecv_persistent (g : Bool) : Persistent (nextRecv (F := F) c g) := by unfold nextRecv; infer_instance

theorem nextRecv_at (g : Bool) (h : Fin 3) (q : Fin 2) : nextRecv (F := F) c g ⊢ reached ER (cell (.recv g h q) (nxt g c)) 0 := by
  unfold nextRecv
  iintro H
  iapply (Release.heard_elim (fun x : Fin 3 × Fin 2 => (reached ER (cell (.recv g x.1 x.2) (nxt g c)) 0 : sProp (MM F))) (Finset.mem_univ (h, q))) $$ H

/-- The tokens of a transfer, before the handshake. -/
def tok (g : Bool) (h : Fin 3) (q : Fin 2) : sProp (MM F) :=
  iprop((dutyTok ER (cell (.send g h q) c) 0 0 ∗ reached ER (cell (.send g h q) c) 0) ∗ dutyTok ER (cell (.recv g h q) (nxt g c)) 0 0)

theorem arm (g : Bool) (h : Fin 3) (q : Fin 2) : iprop(nextRecv c g ∗ sendPay A c g h q ∗ tok c g h q) ⊢ ready A c g h q := by
  unfold ready sendTok tok
  iintro ⟨#Hn, Hp, Ht, Ht'⟩
  isplitl [Hp]; · iexact Hp
  isplitl [Ht]; · iexact Ht
  isplitl [Ht']; · iexact Ht'
  iapply (nextRecv_at c g h q); iexact Hn

theorem four_arm (h : Fin 3) :
    iprop((nextRecv c false ∗ nextRecv c true) ∗ four (fun g q => sendPay A c g h q) ∗ four (fun g q => tok c g h q))
      ⊢ iprop((ready A c false h 0 ∗ ready A c false h 1) ∗ (ready A c true h 0 ∗ ready A c true h 1)) := by
  unfold four
  iintro ⟨⟨#N0, #N1⟩, ⟨P0, P1, P2, P3⟩, T0, T1, T2, T3⟩
  isplitl [P0 P2 T0 T2]
  · isplitl [P0 T0]
    · iapply (arm A c false h 0)
      isplitr; · iexact N0
      isplitl [P0]; · iexact P0
      iexact T0
    · iapply (arm A c false h 1)
      isplitr; · iexact N0
      isplitl [P2]; · iexact P2
      iexact T2
  · isplitl [P1 T1]
    · iapply (arm A c true h 0)
      isplitr; · iexact N1
      isplitl [P1]; · iexact P1
      iexact T1
    · iapply (arm A c true h 1)
      isplitr; · iexact N1
      isplitl [P3]; · iexact P3
      iexact T3

/-! ## Releasing a slot -/

theorem pay_slot (g : Bool) (h : Fin 3) : iprop(sendPay A c g h 0 ∗ sendPay A c g h 1) ⊢ anySlot g c (sl h) := by
  unfold sendPay anySlot slotSet
  iintro ⟨H0, H1⟩
  iapply (any_join (rC_disjoint (sl h)))
  isplitl [H0]
  · iapply (blk_any (M := cM g)); iexact H0
  · iapply (blk_any (M := cM g)); iexact H1

/-- Slot 0 is released, and its credits are ready to go. -/
theorem give0 (g : Bool) :
    iprop(ctx A K ιs ∗ Release.readerAt ES ((c, g, 0) : Key) 0 ∗ (sendPay A c g 0 0 ∗ sendPay A c g 0 1)
        ∗ (dutyTok ER (cell (.credit g) (prv g c)) 0 0 ∗ dutyTok ER (cell (.credit g) (prv g c)) 0 1) ∗ reached ER (cell (.credit g) (prv g c)) 0)
      ⊢ (|={Set.univ}=> iprop(credGive c g 0 1 ∗ Release.released ES ((c, g, 0) : Key) 1) : sProp (MM F)) := by
  iintro ⟨#HI, Hr, HS, ⟨T0, T1⟩, Hc⟩
  ihave HS := (pay_slot A c g 0) $$ HS
  imod (release_step A c g 0) $$ [Hr HS] with #Hrel
  · isplitr; · iexact HI
    isplitl [Hr]; · iexact Hr
    iexact HS
  imodintro
  unfold credGive
  isplitl
  · isplitl [T0]
    · isplitl [T0]; · iexact T0
      iapply (Entails.of_eq (show Release.released ES ((c, g, 0) : Key) 1 = credPay (F := F) (prv g c) g 0 by unfold credPay; rw [nxt_prv, if_pos (by decide)])); iexact Hrel
    isplitl [T1]
    · isplitl [T1]; · iexact T1
      iapply (Entails.of_eq (show Release.released ES ((c, g, 0) : Key) 1 = credPay (F := F) (prv g c) g 1 by unfold credPay; rw [nxt_prv, if_pos (by decide)])); iexact Hrel
    iexact Hc
  iexact Hrel

/-- Slot 1 is released, and its credits are ready to go. -/
theorem give1 (g : Bool) :
    iprop(ctx A K ιs ∗ Release.readerAt ES ((c, g, 1) : Key) 0 ∗ (sendPay A c g 1 0 ∗ sendPay A c g 1 1)
        ∗ (dutyTok ER (cell (.credit g) (prv g c)) 0 2 ∗ dutyTok ER (cell (.credit g) (prv g c)) 0 3) ∗ reached ER (cell (.credit g) (prv g c)) 0
        ∗ Release.released ES ((c, g, 0) : Key) 1)
      ⊢ (|={Set.univ}=> credGive c g 2 3 : sProp (MM F)) := by
  iintro ⟨#HI, Hr, HS, ⟨T0, T1⟩, Hc, #H0⟩
  ihave HS := (pay_slot A c g 1) $$ HS
  imod (release_step A c g 1) $$ [Hr HS] with #Hrel
  · isplitr; · iexact HI
    isplitl [Hr]; · iexact Hr
    iexact HS
  imodintro
  unfold credGive
  isplitl [T0]
  · isplitl [T0]; · iexact T0
    iapply (Entails.of_eq (show iprop(Release.released ES ((c, g, 0) : Key) 1 ∗ Release.released ES ((c, g, 1) : Key) 1) = credPay (F := F) (prv g c) g 2 by unfold credPay; rw [nxt_prv, if_neg (by decide)]))
    isplitl <;> iassumption
  isplitl [T1]
  · isplitl [T1]; · iexact T1
    iapply (Entails.of_eq (show iprop(Release.released ES ((c, g, 0) : Key) 1 ∗ Release.released ES ((c, g, 1) : Key) 1) = credPay (F := F) (prv g c) g 3 by unfold credPay; rw [nxt_prv, if_neg (by decide)]))
    isplitl <;> iassumption
  iexact Hc

/-! ## The casts before the first hop -/

theorem cast_step (g : Bool) :
    iprop(blk (pM g) c Finset.univ (PP A g 0 c) ∗ blk (cM g) c (slotSet 0) (lift (XX A g 0 c))) ⊢ iprop(anyBlk (pM g) c Finset.univ ∗ (sendPay A c g 0 0 ∗ sendPay A c g 0 1)) := by
  unfold sendPay slotSet
  iintro ⟨Hp, Hc⟩
  isplitl [Hp]; · iapply (blk_any (M := pM g)); iexact Hp
  iapply (blk_split (rC_disjoint 0)); iexact Hc

/-- The first partial products are cast into the first slots. -/
theorem casts_step {α : Type} {Q : α → sProp (MM F)} (k : P (F := F) α) :
    iprop((blk (pM false) c Finset.univ (PP A false 0 c) ∗ blk (pM true) c Finset.univ (PP A true 0 c)) ∗ (anySlot false c 0 ∗ anySlot true c 0))
      ⊢ iprop((iprop((anyBlk (pM false) c Finset.univ ∗ anyBlk (pM true) c Finset.univ) ∗ four (fun g q => sendPay A c g 0 q)) -∗ wpK c k Q)
          -∗ wpK c (castRow false 0 >>= fun _ => castRow true 0 >>= fun _ => castRow false 1 >>= fun _ => castRow true 1 >>= fun _ => k) Q) := by
  iintro ⟨⟨P0, P1⟩, S0, S1⟩ Hk
  unfold anySlot
  ihave S0 := (any_blk (M := cM false)) $$ S0
  icases S0 with ⟨%X0, S0⟩
  ihave S1 := (any_blk (M := cM true)) $$ S1
  icases S1 with ⟨%X1, S1⟩
  rw [wpK_bind]
  iapply (castRow_step A c false 0 X0) $$ [P0 S0]
  · isplitl [P0]; · iexact P0
    iexact S0
  iintro ⟨P0, S0⟩
  rw [wpK_bind]
  iapply (castRow_step A c true 0 X1) $$ [P1 S1]
  · isplitl [P1]; · iexact P1
    iexact S1
  iintro ⟨P1, S1⟩
  rw [wpK_bind]
  iapply (castRow_step A c false 1 (row3 1 (0 : Fin 2).val (lift (XX A false 0 c)) X0)) $$ [P0 S0]
  · isplitl [P0]; · iexact P0
    iexact S0
  iintro ⟨P0, S0⟩
  rw [wpK_bind]
  iapply (castRow_step A c true 1 (row3 1 (0 : Fin 2).val (lift (XX A true 0 c)) X1)) $$ [P1 S1]
  · isplitl [P1]; · iexact P1
    iexact S1
  iintro ⟨P1, S1⟩
  ihave S0 := (Entails.of_eq (congrArg (blk (cM false) c (slotSet 0)) (row3_fin (s := S2x2x512x2048) (a := 1) rfl (lift (XX A false 0 c)) X0))) $$ S0
  ihave S1 := (Entails.of_eq (congrArg (blk (cM true) c (slotSet 0)) (row3_fin (s := S2x2x512x2048) (a := 1) rfl (lift (XX A true 0 c)) X1))) $$ S1
  ihave H0 := (cast_step A c false) $$ [P0 S0]
  · isplitl [P0]; · iexact P0
    iexact S0
  ihave H1 := (cast_step A c true) $$ [P1 S1]
  · isplitl [P1]; · iexact P1
    iexact S1
  icases H0 with ⟨P0, A0, A2⟩
  icases H1 with ⟨P1, A1, A3⟩
  iapply Hk
  isplitl [P0 P1]
  · isplitl [P0]; · iexact P0
    iexact P1
  unfold four
  isplitl [A0]; · iexact A0
  isplitl [A1]; · iexact A1
  isplitl [A2]; · iexact A2
  iexact A3

/-! ## The result's four pieces -/

theorem rPh_disjoint : Disjoint (rPh 0).set (rPh 1).set := Rect.unit_disjoint (a := (1 : Fin 3)) (.inl (by show 256 * 0 + 256 ≤ 256 * 1; omega))
theorem rPh_union : (Finset.univ : Finset S2x512x2048.Idx) = (rPh 0).set ∪ (rPh 1).set := by
  ext i
  simp only [Finset.mem_univ, Finset.mem_union, true_iff, Rect.mem_set_unit]
  have h0 : (i 0).val < 2 := (i 0).isLt
  have h1 : (i 1).val < 512 := (i 1).isLt
  have h2 : (i 2).val < 2048 := (i 2).isLt
  by_cases h : (i 1).val < 256
  · refine .inl fun a => ?_
    match a with
    | ⟨0, _⟩ => exact ⟨Nat.zero_le _, by show (i 0).val < 0 + 2; omega⟩
    | ⟨1, _⟩ => exact ⟨Nat.zero_le _, by show (i 1).val < 256 * 0 + 256; omega⟩
    | ⟨2, _⟩ => exact ⟨Nat.zero_le _, by show (i 2).val < 0 + 2048; omega⟩
  · refine .inr fun a => ?_
    match a with
    | ⟨0, _⟩ => exact ⟨Nat.zero_le _, by show (i 0).val < 0 + 2; omega⟩
    | ⟨1, _⟩ => exact ⟨by show 256 * 1 ≤ (i 1).val; omega, by show (i 1).val < 256 * 1 + 256; omega⟩
    | ⟨2, _⟩ => exact ⟨Nat.zero_le _, by show (i 2).val < 0 + 2048; omega⟩

/-- The halves of the result's columns, one of each ring. -/
def rOg (g : Bool) : Finset S2x512x4096.Idx := (rO 0 g).set ∪ (rO 1 g).set
theorem rO_disjoint (g : Bool) : Disjoint (rO 0 g).set (rO 1 g).set := Rect.unit_disjoint (a := (1 : Fin 3)) (.inl (by show 256 * 0 + 256 ≤ 256 * 1; omega))
theorem mem_rOg {g : Bool} {i : S2x512x4096.Idx} : i ∈ rOg g ↔ (2048 * g.toNat ≤ (i 2).val ∧ (i 2).val < 2048 * g.toNat + 2048) := by
  unfold rOg
  simp only [Finset.mem_union, Rect.mem_set_unit]
  have h0 : (i 0).val < 2 := (i 0).isLt
  have h1 : (i 1).val < 512 := (i 1).isLt
  constructor
  · rintro (h | h) <;> exact h 2
  · intro hc
    by_cases h : (i 1).val < 256
    · refine .inl fun a => ?_
      match a with
      | ⟨0, _⟩ => exact ⟨Nat.zero_le _, by show (i 0).val < 0 + 2; omega⟩
      | ⟨1, _⟩ => exact ⟨Nat.zero_le _, by show (i 1).val < 256 * 0 + 256; omega⟩
      | ⟨2, _⟩ => exact hc
    · refine .inr fun a => ?_
      match a with
      | ⟨0, _⟩ => exact ⟨Nat.zero_le _, by show (i 0).val < 0 + 2; omega⟩
      | ⟨1, _⟩ => exact ⟨by show 256 * 1 ≤ (i 1).val; omega, by show (i 1).val < 256 * 1 + 256; omega⟩
      | ⟨2, _⟩ => exact hc
theorem rOg_disjoint : Disjoint (rOg false) (rOg true) := by
  rw [Finset.disjoint_left]
  intro i h h'
  have h := (mem_rOg.mp h).2
  have h' := (mem_rOg.mp h').1
  simp only [Bool.toNat_false, Bool.toNat_true] at h h'
  omega
theorem rOg_union : (Finset.univ : Finset S2x512x4096.Idx) = rOg false ∪ rOg true := by
  ext i
  simp only [Finset.mem_univ, Finset.mem_union, true_iff, mem_rOg, Bool.toNat_false, Bool.toNat_true]
  have h2 : (i 2).val < 4096 := (i 2).isLt
  omega

theorem out_split : anyBlk (F := F) outM c Finset.univ ⊢ four (fun g q => anyBlk outM c (rO q g).set) := by
  rw [rOg_union]
  unfold four
  iintro H
  ihave H := (any_split rOg_disjoint) $$ H
  icases H with ⟨H0, H1⟩
  unfold rOg
  ihave H0 := (any_split (rO_disjoint false)) $$ H0
  ihave H1 := (any_split (rO_disjoint true)) $$ H1
  icases H0 with ⟨H0, H2⟩
  icases H1 with ⟨H1, H3⟩
  isplitl [H0]; · iexact H0
  isplitl [H1]; · iexact H1
  isplitl [H2] <;> iassumption

theorem out_join : four (fun g q => blk outM c (rO q g).set (outV A c)) ⊢ blk outM c Finset.univ (outV A c) := by
  rw [rOg_union]
  unfold four
  iintro ⟨H0, H1, H2, H3⟩
  iapply (blk_join rOg_disjoint)
  unfold rOg
  isplitl [H0 H2]
  · iapply (blk_join (rO_disjoint false)); isplitl [H0] <;> iassumption
  · iapply (blk_join (rO_disjoint true)); isplitl [H1] <;> iassumption

theorem half_split (g : Bool) : blk (pM g) c Finset.univ (PP A g 3 c) ⊢ iprop(blk (pM g) c (rPh 0).set (PP A g 3 c) ∗ blk (pM g) c (rPh 1).set (PP A g 3 c)) := by
  rw [rPh_union]; exact blk_split rPh_disjoint
theorem half_join (g : Bool) : iprop(anyBlk (F := F) (pM g) c (rPh 0).set ∗ anyBlk (pM g) c (rPh 1).set) ⊢ anyBlk (pM g) c Finset.univ := by
  rw [rPh_union]; exact any_join rPh_disjoint

/-! ## The end of the body -/

/-- The store cell before and past its round. -/
def storeWait (g : Bool) (q : Fin 2) : sProp (MM F) := atPos ER (cell (.store q g) c) 0 ∅ 0
def storeDone (g : Bool) (q : Fin 2) : sProp (MM F) := atPos ER (cell (.store q g) c) 1 ∅ 0

/-- What a store leaves to wait for. -/
def storeCred (g : Bool) (q : Fin 2) : sProp (MM F) := cred (tallyAt (cell (.store q g) c) 0 NS)

/-- The last additions, and the stores begun. -/
theorem fins_step {α : Type} {Q : α → sProp (MM F)} (k : P (F := F) α) :
    iprop(ctx A K ιs ∗ own c [] ∗ four (fun g q => recvWait c g 2 q) ∗ (blk (pM false) c Finset.univ (PP A false 3 c) ∗ blk (pM true) c Finset.univ (PP A true 3 c))
        ∗ anyBlk outM c Finset.univ ∗ four (fun g q => storeTok c g q))
      ⊢ iprop((iprop(own c [] ∗ four (fun g q => recvDone c g 2 q) ∗ (anySlot false c 1 ∗ anySlot true c 1) ∗ four (fun g q => storeCred c g q)) -∗ wpK c k Q)
          -∗ wpK c (finOne false 2 0 1 0 >>= fun _ => finOne true 2 0 1 0 >>= fun _ => finOne false 2 0 1 1 >>= fun _ => finOne true 2 0 1 1 >>= fun _ => k) Q) := by
  iintro ⟨#HI, HO, HR, ⟨P0, P1⟩, Hout, HT⟩ Hk
  ihave Hout := (out_split c) $$ Hout
  unfold four
  icases Hout with ⟨O0, O1, O2, O3⟩
  icases HR with ⟨R0, R1, R2, R3⟩
  icases HT with ⟨T0, T1, T2, T3⟩
  ihave P0 := (half_split A c false) $$ P0
  ihave P1 := (half_split A c true) $$ P1
  icases P0 with ⟨P0, P2⟩
  icases P1 with ⟨P1, P3⟩
  rw [wpK_bind]
  iapply (finOne_step A c false 0) $$ [HO R0 P0 O0 T0]
  · isplitr; · iexact HI
    isplitl [HO]; · iexact HO
    isplitl [R0]; · iexact R0
    isplitl [P0]; · iexact P0
    isplitl [O0]; · iexact O0
    iexact T0
  iintro ⟨HO, D0, S0, C0⟩
  rw [wpK_bind]
  iapply (finOne_step A c true 0) $$ [HO R1 P1 O1 T1]
  · isplitr; · iexact HI
    isplitl [HO]; · iexact HO
    isplitl [R1]; · iexact R1
    isplitl [P1]; · iexact P1
    isplitl [O1]; · iexact O1
    iexact T1
  iintro ⟨HO, D1, S1, C1⟩
  rw [wpK_bind]
  iapply (finOne_step A c false 1) $$ [HO R2 P2 O2 T2]
  · isplitr; · iexact HI
    isplitl [HO]; · iexact HO
    isplitl [R2]; · iexact R2
    isplitl [P2]; · iexact P2
    isplitl [O2]; · iexact O2
    iexact T2
  iintro ⟨HO, D2, S2, C2⟩
  rw [wpK_bind]
  iapply (finOne_step A c true 1) $$ [HO R3 P3 O3 T3]
  · isplitr; · iexact HI
    isplitl [HO]; · iexact HO
    isplitl [R3]; · iexact R3
    isplitl [P3]; · iexact P3
    isplitl [O3]; · iexact O3
    iexact T3
  iintro ⟨HO, D3, S3, C3⟩
  iapply Hk
  isplitl [HO]; · iexact HO
  isplitl [D0 D1 D2 D3]
  · isplitl [D0]; · iexact D0
    isplitl [D1]; · iexact D1
    isplitl [D2]; · iexact D2
    iexact D3
  isplitl [S0 S1 S2 S3]
  · unfold anySlot slotSet
    isplitl [S0 S2]
    · iapply (any_join (rC_disjoint 1)); isplitl [S0] <;> iassumption
    · iapply (any_join (rC_disjoint 1)); isplitl [S1] <;> iassumption
  unfold storeCred
  isplitl [C0]; · iexact C0
  isplitl [C1]; · iexact C1
  isplitl [C2]; · iexact C2
  iexact C3

/-- The stores end. -/
theorem stores_step :
    iprop(ctx A K ιs ∗ own c [] ∗ four (fun g q => storeWait c g q) ∗ four (fun g q => storeCred c g q))
      ⊢ iprop((iprop(own c [] ∗ four (fun g q => storeDone c g q) ∗ (anyBlk (pM false) c Finset.univ ∗ anyBlk (pM true) c Finset.univ) ∗ blk outM c Finset.univ (outV A c)) -∗ Kt ⟨⟩)
          -∗ wpK c (do waitStore false 0; waitStore true 0; waitStore false 1; waitStore true 1) Kt) := by
  unfold four storeWait storeCred
  iintro ⟨#HI, HO, ⟨W0, W1, W2, W3⟩, C0, C1, C2, C3⟩ Hk
  rw [wpK_bind]
  iapply (waitStore_step A c false 0) $$ [HO W0 C0]
  · isplitr; · iexact HI
    isplitl [HO]; · iexact HO
    isplitl [W0] <;> iassumption
  iintro ⟨HO, W0, B0⟩
  rw [wpK_bind]
  iapply (waitStore_step A c true 0) $$ [HO W1 C1]
  · isplitr; · iexact HI
    isplitl [HO]; · iexact HO
    isplitl [W1] <;> iassumption
  iintro ⟨HO, W1, B1⟩
  rw [wpK_bind]
  iapply (waitStore_step A c false 1) $$ [HO W2 C2]
  · isplitr; · iexact HI
    isplitl [HO]; · iexact HO
    isplitl [W2] <;> iassumption
  iintro ⟨HO, W2, B2⟩
  iapply (waitStore_step A c true 1) $$ [HO W3 C3]
  · isplitr; · iexact HI
    isplitl [HO]; · iexact HO
    isplitl [W3] <;> iassumption
  iintro ⟨HO, W3, B3⟩
  unfold storePay
  icases B0 with ⟨B0, P0⟩
  icases B1 with ⟨B1, P1⟩
  icases B2 with ⟨B2, P2⟩
  icases B3 with ⟨B3, P3⟩
  iapply Hk
  isplitl [HO]; · iexact HO
  isplitl [W0 W1 W2 W3]
  · unfold storeDone
    isplitl [W0]; · iexact W0
    isplitl [W1]; · iexact W1
    isplitl [W2]; · iexact W2
    iexact W3
  isplitl [P0 P1 P2 P3]
  · isplitl [P0 P2]
    · iapply (half_join c false); isplitl [P0] <;> iassumption
    · iapply (half_join c true); isplitl [P1] <;> iassumption
  iapply (out_join A c)
  unfold four
  isplitl [B0]; · iexact B0
  isplitl [B1]; · iexact B1
  isplitl [B2]; · iexact B2
  iexact B3

/-! ## The whole body -/

/-- What one hop's transfers use. -/
def hopRes (h : Fin 3) : sProp (MM F) :=
  iprop(four (fun g q => tok c g h q) ∗ four (fun g q => sendWait c g h q) ∗ four (fun g q => recvWait c g h q)
    ∗ (loadTok c (2 * (h.val + 1)) ∗ loadTok c (2 * (h.val + 1) + 1)))
/-- What is left of it. -/
def hopDone (h : Fin 3) : sProp (MM F) := iprop(four (fun g q => sendDone c g h q) ∗ four (fun g q => recvDone c g h q))

/-- What the credits of a ring use. -/
def credRes (g : Bool) : sProp (MM F) :=
  iprop(atPos ER (cell (.credit g) c) 0 ∅ 0
    ∗ ((cred (tallyAt (cell (.credit g) c) 0 1) ∗ cred (tallyAt (cell (.credit g) c) 0 1)) ∗ Release.writeTok ES ((nxt g c, g, 0) : Key) 1)
    ∗ ((cred (tallyAt (cell (.credit g) c) 1 1) ∗ cred (tallyAt (cell (.credit g) c) 1 1)) ∗ Release.writeTok ES ((nxt g c, g, 1) : Key) 1)
    ∗ (Release.readerAt ES ((c, g, 0) : Key) 0 ∗ (dutyTok ER (cell (.credit g) (prv g c)) 0 0 ∗ dutyTok ER (cell (.credit g) (prv g c)) 0 1))
    ∗ (Release.readerAt ES ((c, g, 1) : Key) 0 ∗ (dutyTok ER (cell (.credit g) (prv g c)) 0 2 ∗ dutyTok ER (cell (.credit g) (prv g c)) 0 3)))

/-- What the handshake uses. -/
def barRes : sProp (MM F) := iprop(barGive c false ∗ barGive c true ∗ atPos ER (cell .bar c) 0 ∅ 0 ∗ cred (tallyAt (cell .bar c) 0 2))

/-- The buffers at the start, but for the slots given away in the handshake. -/
def memIn (wM : Memref sig .tc .vmem S1024x4096 .bf16) : sProp (MM F) :=
  iprop(mem A c wM ∗ (anyBlk (pM false) c Finset.univ ∗ anyBlk (pM true) c Finset.univ) ∗ (anySlot false c 0 ∗ anySlot true c 0) ∗ anyBlk outM c Finset.univ)
/-- The buffers at the end. -/
def memOut (wM : Memref sig .tc .vmem S1024x4096 .bf16) : sProp (MM F) :=
  iprop(mem A c wM ∗ (anyBlk (pM false) c Finset.univ ∗ anyBlk (pM true) c Finset.univ) ∗ ((anySlot false c 0 ∗ anySlot true c 0) ∗ (anySlot false c 1 ∗ anySlot true c 1))
    ∗ blk outM c Finset.univ (outV A c))

/-- All a device starts from. -/
def runIn (wM : Memref sig .tc .vmem S1024x4096 .bf16) : sProp (MM F) :=
  iprop(barRes c ∗ (loadSt c 0 ∗ (loadTok c 0 ∗ loadTok c 1)) ∗ memIn A c wM ∗ (hopRes c 0 ∗ hopRes c 1 ∗ hopRes c 2) ∗ (credRes c false ∗ credRes c true)
    ∗ (four (fun g q => storeTok c g q) ∗ four (fun g q => storeWait c g q)))
/-- All a device ends with. -/
def runOut (wM : Memref sig .tc .vmem S1024x4096 .bf16) : sProp (MM F) :=
  iprop(atPos ER (cell .bar c) 1 ∅ 0 ∗ loadSt c 8 ∗ memOut A c wM ∗ (hopDone c 0 ∗ hopDone c 1 ∗ hopDone c 2)
    ∗ (atPos ER (cell (.credit false) c) 1 ∅ 0 ∗ atPos ER (cell (.credit true) c) 1 ∅ 0) ∗ four (fun g q => storeDone (F := F) c g q))

end Cert.K

end
-- ==== Proof.Whole.lean ====
/-
# The body from end to end

The steps put together: the handshake, the first partial products, the three hops with the credits between them, the last additions
and the stores.
-/
module

public import proofs.«01_k».proof.Proof.Run

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ} (c : Dev nD) {Kt : PUnit → sProp (MM F)}

/-- What stays of the handshake through the whole body: where the neighbours' cells stand. -/
def hello : sProp (MM F) :=
  iprop((nextRecv c false ∗ nextRecv c true) ∗ (reached ER (cell (.credit false) (prv false c)) 0 ∗ reached ER (cell (.credit true) (prv true c)) 0))

instance hello_persistent : Persistent (hello (F := F) c) := by unfold hello; infer_instance

/-- What the handshake brings: the slots of the next devices, and where their cells stand. -/
theorem hello_intro : iprop(barPay (F := F) c false ∗ barPay c true) ⊢ iprop(hello c ∗ (anySlot false (nxt false c) 1 ∗ anySlot true (nxt true c) 1)) := by
  unfold barPay hello nextRecv
  iintro ⟨⟨S0, N0, C1⟩, S1, N1, C0⟩
  isplitl [N0 N1 C0 C1]
  · isplitl [N0 N1]
    · isplitl [N0] <;> iassumption
    · isplitl [C0]
      · iexact C0
      · iexact C1
  isplitl [S0] <;> iassumption

theorem sub_slot (g : Bool) (d : Dev nD) (s : Fin 2) : anySlot (F := F) g d s ⊢ iprop(anyBlk (cM g) d (rC s 0).set ∗ anyBlk (cM g) d (rC s 1).set) := by
  unfold anySlot slotSet; exact any_split (rC_disjoint s)

/-- The credits of both rings after the first hop. -/
theorem gives0 :
    iprop(ctx A K ιs ∗ hello c ∗ four (fun g q => sendPay A c g 0 q)
        ∗ (Release.readerAt ES ((c, false, 0) : Key) 0 ∗ (dutyTok ER (cell (.credit false) (prv false c)) 0 0 ∗ dutyTok ER (cell (.credit false) (prv false c)) 0 1))
        ∗ (Release.readerAt ES ((c, true, 0) : Key) 0 ∗ (dutyTok ER (cell (.credit true) (prv true c)) 0 0 ∗ dutyTok ER (cell (.credit true) (prv true c)) 0 1)))
      ⊢ (|={Set.univ}=> iprop((credGive c false 0 1 ∗ credGive c true 0 1)
          ∗ (Release.released ES ((c, false, 0) : Key) 1 ∗ Release.released ES ((c, true, 0) : Key) 1)) : sProp (MM F)) := by
  unfold four hello
  iintro ⟨#HI, ⟨-, #H0, #H1⟩, ⟨S0, S1, S2, S3⟩, ⟨D0, T0⟩, D1, T1⟩
  imod (give0 A c false) $$ [S0 S2 D0 T0] with ⟨G0, E0⟩
  · isplitr; · iexact HI
    isplitl [D0]; · iexact D0
    isplitl [S0 S2]; · isplitl [S0] <;> iassumption
    isplitl [T0]; · iexact T0
    iexact H0
  imod (give0 A c true) $$ [S1 S3 D1 T1] with ⟨G1, E1⟩
  · isplitr; · iexact HI
    isplitl [D1]; · iexact D1
    isplitl [S1 S3]; · isplitl [S1] <;> iassumption
    isplitl [T1]; · iexact T1
    iexact H1
  imodintro
  isplitl [G0 G1]; · isplitl [G0] <;> iassumption
  isplitl [E0] <;> iassumption

/-- The credits of both rings after the second hop. -/
theorem gives1 :
    iprop(ctx A K ιs ∗ hello c ∗ four (fun g q => sendPay A c g 1 q)
        ∗ (Release.readerAt ES ((c, false, 1) : Key) 0 ∗ (dutyTok ER (cell (.credit false) (prv false c)) 0 2 ∗ dutyTok ER (cell (.credit false) (prv false c)) 0 3))
        ∗ (Release.readerAt ES ((c, true, 1) : Key) 0 ∗ (dutyTok ER (cell (.credit true) (prv true c)) 0 2 ∗ dutyTok ER (cell (.credit true) (prv true c)) 0 3))
        ∗ (Release.released ES ((c, false, 0) : Key) 1 ∗ Release.released ES ((c, true, 0) : Key) 1))
      ⊢ (|={Set.univ}=> iprop(credGive c false 2 3 ∗ credGive c true 2 3) : sProp (MM F)) := by
  unfold four hello
  iintro ⟨#HI, ⟨-, #H0, #H1⟩, ⟨S0, S1, S2, S3⟩, ⟨D0, T0⟩, ⟨D1, T1⟩, E0, E1⟩
  imod (give1 A c false) $$ [S0 S2 D0 T0 E0] with G0
  · isplitr; · iexact HI
    isplitl [D0]; · iexact D0
    isplitl [S0 S2]; · isplitl [S0] <;> iassumption
    isplitl [T0]; · iexact T0
    isplitr; · iexact H0
    iexact E0
  imod (give1 A c true) $$ [S1 S3 D1 T1 E1] with G1
  · isplitr; · iexact HI
    isplitl [D1]; · iexact D1
    isplitl [S1 S3]; · isplitl [S1] <;> iassumption
    isplitl [T1]; · iexact T1
    isplitr; · iexact H1
    iexact E1
  imodintro
  isplitl [G0] <;> iassumption

/-- The state around a hop: what is loaded, the operands, the accumulators. -/
def midSt (wM : Memref sig .tc .vmem S1024x4096 .bf16) (r : ℕ) : sProp (MM F) :=
  iprop(loadSt c r ∗ mem A c wM ∗ (anyBlk (pM false) c Finset.univ ∗ anyBlk (pM true) c Finset.univ))

theorem acc_any {n : ℕ} : iprop(blk (pM false) c Finset.univ (PP A false n c) ∗ blk (pM true) c Finset.univ (PP A true n c))
    ⊢ iprop(anyBlk (pM false) c Finset.univ ∗ anyBlk (pM true) c Finset.univ) := by
  iintro ⟨H0, H1⟩
  isplitl [H0]
  · iapply (blk_any (M := pM false)); iexact H0
  · iapply (blk_any (M := pM true)); iexact H1

/-- The handshake, the first partial products and their casts. -/
theorem start_step (wM : Memref sig .tc .vmem S1024x4096 .bf16) {α : Type} {Q : α → sProp (MM F)} (k : P (F := F) α) :
    iprop(ctx A K ιs ∗ own c (due0 c) ∗ barRes c ∗ (loadSt c 0 ∗ (loadTok c 0 ∗ loadTok c 1)) ∗ mem A c wM
        ∗ (anyBlk (pM false) c Finset.univ ∗ anyBlk (pM true) c Finset.univ) ∗ (anySlot false c 0 ∗ anySlot true c 0))
      ⊢ iprop((iprop(own c (dueSends 0 c ++ due2 c) ∗ atPos ER (cell .bar c) 1 ∅ 0 ∗ hello c ∗ (anySlot false (nxt false c) 1 ∗ anySlot true (nxt true c) 1)
            ∗ midSt A c wM 2 ∗ four (fun g q => sendPay A c g 0 q)) -∗ wpK c k Q)
          -∗ wpK c (handshake (prv false c) (prv true c) >>= fun _ => partialOf wM false (k0_off1 c 4#32 1#32) (k0_off1_inb c 0) >>= fun _ =>
              partialOf wM true (k0_off2 c) (k0_off2_inb c) >>= fun _ => castRow false 0 >>= fun _ => castRow true 0 >>= fun _ => castRow false 1 >>= fun _ =>
              castRow true 1 >>= fun _ => k) Q) := by
  unfold barRes
  iintro ⟨#HI, HO, ⟨B0, B1, Ba, Bc⟩, ⟨Hl, Ht⟩, Hm, ⟨P0, P1⟩, HS⟩ Hk
  rw [wpK_bind]
  iapply (handshake_step A c) $$ [HO B0 B1 Ba Bc]
  · isplitr; · iexact HI
    isplitl [HO]; · iexact HO
    isplitl [B0]; · iexact B0
    isplitl [B1]; · iexact B1
    isplitl [Ba] <;> iassumption
  iintro ⟨HO, Ba, B0, B1⟩
  ihave HB := (hello_intro c) $$ [B0 B1]
  · isplitl [B0] <;> iassumption
  icases HB with ⟨Hh, HN⟩
  iapply (partials_step A c wM 0 (by decide) (due1 c) (over_mono (Nat.zero_le _) (over1 c)) _ _ (k0_off1_inb c 0) (k0_off2_inb c) (off0_eq c).1 (off0_eq c).2) $$ [HO Hl Ht Hm P0 P1]
  · isplitr; · iexact HI
    isplitl [HO]; · iexact HO
    isplitl [Hl]; · iexact Hl
    isplitl [Ht]; · iexact Ht
    isplitl [Hm]; · iexact Hm
    isplitl [P0] <;> iassumption
  iintro ⟨HO, Hl, Hm, P0, P1⟩
  iapply (casts_step A c k) $$ [P0 P1 HS]
  · isplitr [HS]
    · isplitl [P0] <;> iassumption
    iexact HS
  iintro ⟨HP, HS⟩
  iapply Hk
  isplitl [HO]; · iexact HO
  isplitl [Ba]; · iexact Ba
  isplitl [Hh]; · iexact Hh
  isplitl [HN]; · iexact HN
  isplitr [HS]
  · unfold midSt
    isplitl [Hl]; · iexact Hl
    isplitl [Hm]; · iexact Hm
    iexact HP
  iexact HS

/-- The first hop. -/
theorem hop0_step (wM : Memref sig .tc .vmem S1024x4096 .bf16) :
    iprop(ctx A K ιs ∗ own c (dueSends 0 c ++ due2 c) ∗ hello c ∗ (anySlot false (nxt false c) 1 ∗ anySlot true (nxt true c) 1) ∗ midSt A c wM 2
        ∗ four (fun g q => sendPay A c g 0 q) ∗ four (fun g q => tok c g 0 q) ∗ four (fun g q => sendWait c g 0 q) ∗ (loadTok c 2 ∗ loadTok c 3))
      ⊢ iprop((iprop(own c (dueCreds 0 c ++ due3 c) ∗ loadSt c 4 ∗ mem A c wM
            ∗ (blk (pM false) c Finset.univ (PP A false 1 c) ∗ blk (pM true) c Finset.univ (PP A true 1 c))
            ∗ four (fun g q => sendPay A c g 0 q) ∗ four (fun g q => sendDone c g 0 q)) -∗ Kt ⟨⟩)
          -∗ wpK c (hop sendOne wM 0 0 1 (nxt false c) (nxt true c) (nxt false c) (nxt true c) (k0_off1 c 2#32 0#32) (k0_off3 c 0#32) (k0_off1_inb c 1) (k0_off3_inb c 0)) Kt) := by
  unfold midSt hello
  iintro ⟨#HI, HO, ⟨Hn, -⟩, ⟨N0, N1⟩, ⟨Hl, Hm, P0, P1⟩, Hs, Ht, Hw, HT⟩ Hk
  ihave HA := (four_arm A c 0) $$ [Hn Hs Ht]
  · isplitl [Hn]; · iexact Hn
    isplitl [Hs] <;> iassumption
  icases HA with ⟨⟨A0, A2⟩, A1, A3⟩
  ihave N0 := (sub_slot false (nxt false c) 1) $$ N0
  ihave N1 := (sub_slot true (nxt true c) 1) $$ N1
  icases N0 with ⟨N0, N2⟩
  icases N1 with ⟨N1, N3⟩
  iapply (hop_step A c sendOne 0 (R0 A c) (sends0 A c) wM (due2 c) (over2 c) _ _ (k0_off1_inb c 1) (k0_off3_inb c 0) (off1_eq c).1 (off1_eq c).2)
      $$ [HO A0 A1 A2 A3 N0 N1 N2 N3 Hw Hl HT Hm P0 P1]
  · isplitr; · iexact HI
    isplitl [HO]; · iexact HO
    isplitl [A0 A1 A2 A3 N0 N1 N2 N3]
    · unfold R0
      isplitl [A0 A2 N0 N2]
      · isplitl [A0 N0]
        · isplitl [A0] <;> iassumption
        · isplitl [A2] <;> iassumption
      · isplitl [A1 N1]
        · isplitl [A1] <;> iassumption
        · isplitl [A3] <;> iassumption
    isplitl [Hw]; · iexact Hw
    isplitl [Hl]; · iexact Hl
    isplitl [HT]; · iexact HT
    isplitl [Hm]; · iexact Hm
    isplitl [P0] <;> iassumption
  iintro ⟨HO, -, HD, HS, Hl, Hm, HP⟩
  iapply Hk
  isplitl [HO]; · iexact HO
  isplitl [Hl]; · iexact Hl
  isplitl [Hm]; · iexact Hm
  isplitl [HP]; · iexact HP
  isplitl [HS] <;> iassumption

/-- The second hop. -/
theorem hop1_step (wM : Memref sig .tc .vmem S1024x4096 .bf16) :
    iprop(ctx A K ιs ∗ own c (dueSends 1 c ++ due4 c) ∗ hello c ∗ midSt A c wM 4
        ∗ four (fun g q => sendPay A c g 1 q) ∗ four (fun g q => tok c g 1 q) ∗ four (fun g q => sendWait c g 1 q) ∗ (loadTok c 4 ∗ loadTok c 5)
        ∗ (credAt c false 0 ∗ credAt c true 0)
        ∗ ((cred (tallyAt (cell (.credit false) c) 0 1) ∗ cred (tallyAt (cell (.credit false) c) 0 1)) ∗ Release.writeTok ES ((nxt false c, false, 0) : Key) 1)
        ∗ ((cred (tallyAt (cell (.credit true) c) 0 1) ∗ cred (tallyAt (cell (.credit true) c) 0 1)) ∗ Release.writeTok ES ((nxt true c, true, 0) : Key) 1))
      ⊢ iprop((iprop(own c (dueCreds 1 c ++ due5 c) ∗ loadSt c 6 ∗ mem A c wM
            ∗ (blk (pM false) c Finset.univ (PP A false 2 c) ∗ blk (pM true) c Finset.univ (PP A true 2 c))
            ∗ four (fun g q => sendPay A c g 1 q) ∗ four (fun g q => sendDone c g 1 q) ∗ (credAt c false 2 ∗ credAt c true 2)) -∗ Kt ⟨⟩)
          -∗ wpK c (hop sendCred wM 1 1 0 (nxt false c) (nxt true c) (nxt false c) (nxt true c) (k0_off1 c 2#32 1#32) (k0_off3 c 1#32) (k0_off1_inb c 2) (k0_off3_inb c 1)) Kt) := by
  unfold midSt hello
  iintro ⟨#HI, HO, ⟨Hn, -⟩, ⟨Hl, Hm, P0, P1⟩, Hs, Ht, Hw, HT, ⟨C0, C1⟩, ⟨K0, W0⟩, K1, W1⟩ Hk
  ihave HA := (four_arm A c 1) $$ [Hn Hs Ht]
  · isplitl [Hn]; · iexact Hn
    isplitl [Hs] <;> iassumption
  icases HA with ⟨HA0, HA1⟩
  iapply (hop_step A c sendCred 1 (R1 A c) (sends1 A c) wM (due4 c) (over4 c) _ _ (k0_off1_inb c 2) (k0_off3_inb c 1) (off2_eq c).1 (off2_eq c).2)
      $$ [HO HA0 HA1 C0 C1 K0 K1 W0 W1 Hw Hl HT Hm P0 P1]
  · isplitr; · iexact HI
    isplitl [HO]; · iexact HO
    isplitl [HA0 HA1 C0 C1 K0 K1 W0 W1]
    · unfold R1
      isplitl [HA0 C0 K0 W0]
      · isplitl [HA0]; · iexact HA0
        isplitl [C0]; · iexact C0
        isplitl [K0] <;> iassumption
      · isplitl [HA1]; · iexact HA1
        isplitl [C1]; · iexact C1
        isplitl [K1] <;> iassumption
    isplitl [Hw]; · iexact Hw
    isplitl [Hl]; · iexact Hl
    isplitl [HT]; · iexact HT
    isplitl [Hm]; · iexact Hm
    isplitl [P0] <;> iassumption
  iintro ⟨HO, HC, HD, HS, Hl, Hm, HP⟩
  iapply Hk
  isplitl [HO]; · iexact HO
  isplitl [Hl]; · iexact Hl
  isplitl [Hm]; · iexact Hm
  isplitl [HP]; · iexact HP
  isplitl [HS]; · iexact HS
  isplitl [HD]; · iexact HD
  iexact HC

/-- The last hop. -/
theorem hop2_step (wM : Memref sig .tc .vmem S1024x4096 .bf16) :
    iprop(ctx A K ιs ∗ own c (dueSends 2 c ++ []) ∗ hello c ∗ midSt A c wM 6
        ∗ four (fun g q => sendPay A c g 2 q) ∗ four (fun g q => tok c g 2 q) ∗ four (fun g q => sendWait c g 2 q) ∗ (loadTok c 6 ∗ loadTok c 7)
        ∗ (credAt c false 2 ∗ credAt c true 2)
        ∗ ((cred (tallyAt (cell (.credit false) c) 1 1) ∗ cred (tallyAt (cell (.credit false) c) 1 1)) ∗ Release.writeTok ES ((nxt false c, false, 1) : Key) 1)
        ∗ ((cred (tallyAt (cell (.credit true) c) 1 1) ∗ cred (tallyAt (cell (.credit true) c) 1 1)) ∗ Release.writeTok ES ((nxt true c, true, 1) : Key) 1))
      ⊢ iprop((iprop(own c [] ∗ loadSt c 8 ∗ mem A c wM
            ∗ (blk (pM false) c Finset.univ (PP A false 3 c) ∗ blk (pM true) c Finset.univ (PP A true 3 c))
            ∗ four (fun g q => sendPay A c g 2 q) ∗ four (fun g q => sendDone c g 2 q)
            ∗ (atPos ER (cell (.credit false) c) 1 ∅ 0 ∗ atPos ER (cell (.credit true) c) 1 ∅ 0)) -∗ Kt ⟨⟩)
          -∗ wpK c (hop sendCred wM 2 0 1 (nxt false c) (nxt true c) (nxt false c) (nxt true c) (k0_off1 c 2#32 2#32) (k0_off3 c 2#32) (k0_off1_inb c 3) (k0_off3_inb c 2)) Kt) := by
  unfold midSt hello
  iintro ⟨#HI, HO, ⟨Hn, -⟩, ⟨Hl, Hm, P0, P1⟩, Hs, Ht, Hw, HT, ⟨C0, C1⟩, ⟨K0, W0⟩, K1, W1⟩ Hk
  ihave HA := (four_arm A c 2) $$ [Hn Hs Ht]
  · isplitl [Hn]; · iexact Hn
    isplitl [Hs] <;> iassumption
  icases HA with ⟨HA0, HA1⟩
  iapply (hop_step A c sendCred 2 (R2 A c) (sends2 A c) wM [] (fun x hx => absurd hx List.not_mem_nil) _ _ (k0_off1_inb c 3) (k0_off3_inb c 2) (off3_eq c).1 (off3_eq c).2)
      $$ [HO HA0 HA1 C0 C1 K0 K1 W0 W1 Hw Hl HT Hm P0 P1]
  · isplitr; · iexact HI
    isplitl [HO]; · iexact HO
    isplitl [HA0 HA1 C0 C1 K0 K1 W0 W1]
    · unfold R2
      isplitl [HA0 C0 K0 W0]
      · isplitl [HA0]; · iexact HA0
        isplitl [C0]; · iexact C0
        isplitl [K0] <;> iassumption
      · isplitl [HA1]; · iexact HA1
        isplitl [C1]; · iexact C1
        isplitl [K1] <;> iassumption
    isplitl [Hw]; · iexact Hw
    isplitl [Hl]; · iexact Hl
    isplitl [HT]; · iexact HT
    isplitl [Hm]; · iexact Hm
    isplitl [P0] <;> iassumption
  iintro ⟨HO, HC, HD, HS, Hl, Hm, HP⟩
  iapply Hk
  isplitl [HO]; · iexact HO
  isplitl [Hl]; · iexact Hl
  isplitl [Hm]; · iexact Hm
  isplitl [HP]; · iexact HP
  isplitl [HS]; · iexact HS
  isplitl [HD]; · iexact HD
  iexact HC

/-- What comes in at one hop goes out at the next. -/
theorem next_pay0 : four (fun g q => blk (cM g) c (rC (dl 0) q).set (lift (XX A g ((0 : Fin 3).val + 1) c))) = four (fun g q => sendPay A c g 1 q) := rfl
theorem next_pay1 : four (fun g q => blk (cM g) c (rC (dl 1) q).set (lift (XX A g ((1 : Fin 3).val + 1) c))) = four (fun g q => sendPay A c g 2 q) := rfl

theorem last_slots : four (fun g q => sendPay A c g 2 q) ⊢ iprop(anySlot false c 0 ∗ anySlot true c 0) := by
  unfold four
  iintro ⟨H0, H1, H2, H3⟩
  isplitl [H0 H2]
  · iapply (pay_slot A c false 2); isplitl [H0] <;> iassumption
  · iapply (pay_slot A c true 2); isplitl [H1] <;> iassumption

/-- The whole body on one device. -/
theorem run_step (wM : Memref sig .tc .vmem S1024x4096 .bf16) :
    iprop(ctx A K ιs ∗ own c (due0 c) ∗ runIn A c wM) ⊢ iprop((iprop(own c [] ∗ runOut A c wM) -∗ Kt ⟨⟩) -∗ wpK c (progC wM c) Kt) := by
  unfold runIn memIn hopRes credRes progC
  iintro ⟨#HI, HO, Hb, Hl, ⟨Hm, HP, HS, Hout⟩, ⟨⟨T0, SW0, RW0, L0⟩, ⟨T1, SW1, RW1, L1⟩, T2, SW2, RW2, L2⟩, ⟨⟨CA0, CI0, CJ0, CG0, CH0⟩, CA1, CI1, CJ1, CG1, CH1⟩, ST, SW⟩ Hk
  iapply (start_step A c wM _) $$ [HO Hb Hl Hm HP HS]
  · isplitr; · iexact HI
    isplitl [HO]; · iexact HO
    isplitl [Hb]; · iexact Hb
    isplitl [Hl]; · iexact Hl
    isplitl [Hm]; · iexact Hm
    isplitl [HP] <;> iassumption
  iintro ⟨HO, Hb, #Hh, HN, HM, HS⟩
  rw [wpK_bind]
  iapply (hop0_step A c wM) $$ [HO HN HM HS T0 SW0 L0]
  · isplitr; · iexact HI
    isplitl [HO]; · iexact HO
    isplitr; · iexact Hh
    isplitl [HN]; · iexact HN
    isplitl [HM]; · iexact HM
    isplitl [HS]; · iexact HS
    isplitl [T0]; · iexact T0
    isplitl [SW0]; · iexact SW0
    iexact L0
  iintro ⟨HO, Hl, Hm, HP, HS, D0⟩
  rw [wpK_bind]
  imod (gives0 A c) $$ [HS CG0 CG1] with ⟨HG, #HE⟩
  · isplitr; · iexact HI
    isplitr; · iexact Hh
    isplitl [HS]; · iexact HS
    isplitl [CG0] <;> iassumption
  iapply (addUp_step A c 0 0 1 (due3 c) (over3 c)) $$ [HO HG RW0 HP]
  · isplitr; · iexact HI
    isplitl [HO]; · iexact HO
    isplitl [HG]; · iexact HG
    isplitl [RW0]; · iexact RW0
    iexact HP
  iintro ⟨HO, E0, HP, HS⟩
  ihave HS := (Entails.of_eq (next_pay0 A c)) $$ HS
  ihave HP := (acc_any A c) $$ HP
  ihave CA0 := (credAt_zero c false) $$ CA0
  ihave CA1 := (credAt_zero c true) $$ CA1
  rw [wpK_bind]
  iapply (hop1_step A c wM) $$ [HO Hl Hm HP HS T1 SW1 L1 CA0 CA1 CI0 CI1]
  · isplitr; · iexact HI
    isplitl [HO]; · iexact HO
    isplitr; · iexact Hh
    isplitl [Hl Hm HP]
    · unfold midSt
      isplitl [Hl]; · iexact Hl
      isplitl [Hm] <;> iassumption
    isplitl [HS]; · iexact HS
    isplitl [T1]; · iexact T1
    isplitl [SW1]; · iexact SW1
    isplitl [L1]; · iexact L1
    isplitl [CA0 CA1]; · isplitl [CA0] <;> iassumption
    isplitl [CI0] <;> iassumption
  iintro ⟨HO, Hl, Hm, HP, HS, D1, CA⟩
  rw [wpK_bind]
  imod (gives1 A c) $$ [HS CH0 CH1] with HG
  · isplitr; · iexact HI
    isplitr; · iexact Hh
    isplitl [HS]; · iexact HS
    isplitl [CH0]; · iexact CH0
    isplitl [CH1]; · iexact CH1
    iexact HE
  iapply (addUp_step A c 1 2 3 (due5 c) (over5 c)) $$ [HO HG RW1 HP]
  · isplitr; · iexact HI
    isplitl [HO]; · iexact HO
    isplitl [HG]; · iexact HG
    isplitl [RW1]; · iexact RW1
    iexact HP
  iintro ⟨HO, E1, HP, HS⟩
  ihave HS := (Entails.of_eq (next_pay1 A c)) $$ HS
  ihave HP := (acc_any A c) $$ HP
  rw [wpK_bind]
  iapply (hop2_step A c wM) $$ [HO Hl Hm HP HS T2 SW2 L2 CA CJ0 CJ1]
  · isplitr; · iexact HI
    isplitl [HO]; · iapply (Entails.of_eq (congrArg (own c) (List.append_nil (dueSends 2 c)).symm)); iexact HO
    isplitr; · iexact Hh
    isplitl [Hl Hm HP]
    · unfold midSt
      isplitl [Hl]; · iexact Hl
      isplitl [Hm] <;> iassumption
    isplitl [HS]; · iexact HS
    isplitl [T2]; · iexact T2
    isplitl [SW2]; · iexact SW2
    isplitl [L2]; · iexact L2
    isplitl [CA]; · iexact CA
    isplitl [CJ0] <;> iassumption
  iintro ⟨HO, Hl, Hm, HP, HS, D2, CA⟩
  ihave HS := (last_slots A c) $$ HS
  iapply (fins_step A c _) $$ [HO RW2 HP Hout ST]
  · isplitr; · iexact HI
    isplitl [HO]; · iexact HO
    isplitl [RW2]; · iexact RW2
    isplitl [HP]; · iexact HP
    isplitl [Hout] <;> iassumption
  iintro ⟨HO, E2, HS1, SC⟩
  iapply (stores_step A c) $$ [HO SW SC]
  · isplitr; · iexact HI
    isplitl [HO]; · iexact HO
    isplitl [SW] <;> iassumption
  iintro ⟨HO, SD, HP, Hout⟩
  iapply Hk
  isplitl [HO]; · iexact HO
  unfold runOut memOut hopDone
  isplitl [Hb]; · iexact Hb
  isplitl [Hl]; · iexact Hl
  isplitl [Hm HP HS HS1 Hout]
  · isplitl [Hm]; · iexact Hm
    isplitl [HP]; · iexact HP
    isplitl [HS HS1]; · isplitl [HS] <;> iassumption
    iexact Hout
  isplitl [D0 D1 D2 E0 E1 E2]
  · isplitl [D0 E0]; · isplitl [D0] <;> iassumption
    isplitl [D1 E1]; · isplitl [D1] <;> iassumption
    isplitl [D2] <;> iassumption
  isplitl [CA] <;> iassumption

end Cert.K

end
-- ==== Proof.Deal.lean ====
/-
# What the launch deals out

The launch makes every cell's ghost state at once. Here it is listed per device, each token handed to the device that pays the
duty, each credit to the device that waits for it.
-/
module

public import proofs.«01_k».proof.Proof.Whole
public import Idealize.ShloMosaic.Lib.Pipeline.TalkSites

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F)

/-- The chain associates. -/
theorem sep_assoc_eq (P Q R : sProp (MM F)) : iprop((P ∗ Q) ∗ R) = iprop(P ∗ Q ∗ R) :=
  BI.Entails.antisymm (Laws.sep_assoc (P := P) (Q := Q) (R := R)).1 (Laws.sep_assoc (P := P) (Q := Q) (R := R)).2

/-- A chain, its first apart. -/
theorem chain_cons {ι : Type} (i j : ι) (l : List ι) (Φ : ι → sProp (MM F)) : bigSepL (i :: j :: l) Φ = iprop(Φ i ∗ bigSepL (j :: l) Φ) := rfl

/-! ## The cells of one device, all but the handshake's -/

/-- The purposes, all but the handshake's. -/
def scList : List Role :=
  [.credit false, .credit true, .load,
   .store 0 false, .store 0 true, .store 1 false, .store 1 true,
   .send false 0 0, .send true 0 0, .send false 0 1, .send true 0 1,
   .send false 1 0, .send true 1 0, .send false 1 1, .send true 1 1,
   .send false 2 0, .send true 2 0, .send false 2 1, .send true 2 1,
   .recv false 0 0, .recv true 0 0, .recv false 0 1, .recv true 0 1,
   .recv false 1 0, .recv true 1 0, .recv false 1 1, .recv true 1 1,
   .recv false 2 0, .recv true 2 0, .recv false 2 1, .recv true 2 1]

theorem scList_nodup : scList.Nodup := by decide

theorem mem_scList : ∀ ρ : Role, ρ ≠ .bar → ρ ∈ scList := by
  intro ρ h
  rcases ρ with _ | g | _ | ⟨q, g⟩ | ⟨g, n, q⟩ | ⟨g, n, q⟩
  · exact absurd rfl h
  · clear h; revert g; decide
  · decide
  · clear h; revert q g; decide
  · clear h; revert g n q; decide
  · clear h; revert g n q; decide

theorem bar_not_scList : Role.bar ∉ scList := by decide

theorem sc_eq : (Finset.univ.erase Role.bar : Finset Role) = scList.toFinset := by
  ext ρ
  rw [Finset.mem_erase, List.mem_toFinset]
  constructor
  · exact fun h => mem_scList ρ h.1
  · exact fun h => ⟨fun e => bar_not_scList (e ▸ h), Finset.mem_univ _⟩

/-- Something held for each of them, in groups. -/
def scAll (Φ : Role → sProp (MM F)) : sProp (MM F) :=
  iprop((Φ (.credit false) ∗ Φ (.credit true)) ∗ Φ .load ∗ four (fun g q => Φ (.store q g))
    ∗ (four (fun g q => Φ (.send g 0 q)) ∗ four (fun g q => Φ (.send g 1 q)) ∗ four (fun g q => Φ (.send g 2 q)))
    ∗ (four (fun g q => Φ (.recv g 0 q)) ∗ four (fun g q => Φ (.recv g 1 q)) ∗ four (fun g q => Φ (.recv g 2 q))))

theorem scAll_eq (Φ : Role → sProp (MM F)) : bigSep (Finset.univ.erase Role.bar) Φ = scAll Φ := by
  rw [bigSep_eq_bigSepL_of_eq scList sc_eq scList_nodup]
  unfold scAll four scList
  simp only [sep_assoc_eq]
  rfl

/-! ## The tokens -/

/-- The duties of one device's cells: the purpose, the round, the number. -/
def tkList : List (Role × ℕ × Fin 4) :=
  [(.bar, 0, 0), (.bar, 0, 1),
   (.credit false, 0, 0), (.credit false, 0, 1), (.credit false, 0, 2), (.credit false, 0, 3),
   (.credit true, 0, 0), (.credit true, 0, 1), (.credit true, 0, 2), (.credit true, 0, 3),
   (.load, 0, 0), (.load, 1, 0), (.load, 2, 0), (.load, 3, 0), (.load, 4, 0), (.load, 5, 0), (.load, 6, 0), (.load, 7, 0),
   (.store 0 false, 0, 0), (.store 0 true, 0, 0), (.store 1 false, 0, 0), (.store 1 true, 0, 0),
   (.send false 0 0, 0, 0), (.send true 0 0, 0, 0), (.send false 0 1, 0, 0), (.send true 0 1, 0, 0),
   (.send false 1 0, 0, 0), (.send true 1 0, 0, 0), (.send false 1 1, 0, 0), (.send true 1 1, 0, 0),
   (.send false 2 0, 0, 0), (.send true 2 0, 0, 0), (.send false 2 1, 0, 0), (.send true 2 1, 0, 0),
   (.recv false 0 0, 0, 0), (.recv true 0 0, 0, 0), (.recv false 0 1, 0, 0), (.recv true 0 1, 0, 0),
   (.recv false 1 0, 0, 0), (.recv true 1 0, 0, 0), (.recv false 1 1, 0, 0), (.recv true 1 1, 0, 0),
   (.recv false 2 0, 0, 0), (.recv true 2 0, 0, 0), (.recv false 2 1, 0, 0), (.recv true 2 1, 0, 0)]

theorem tkList_nodup : tkList.Nodup := by decide

/-- One of each, in groups. -/
def tkAll (Φ : Role × ℕ × Fin 4 → sProp (MM F)) : sProp (MM F) :=
  iprop((Φ (.bar, 0, 0) ∗ Φ (.bar, 0, 1))
    ∗ ((Φ (.credit false, 0, 0) ∗ Φ (.credit false, 0, 1)) ∗ (Φ (.credit false, 0, 2) ∗ Φ (.credit false, 0, 3)))
    ∗ ((Φ (.credit true, 0, 0) ∗ Φ (.credit true, 0, 1)) ∗ (Φ (.credit true, 0, 2) ∗ Φ (.credit true, 0, 3)))
    ∗ ((Φ (.load, 0, 0) ∗ Φ (.load, 1, 0)) ∗ (Φ (.load, 2, 0) ∗ Φ (.load, 3, 0)) ∗ (Φ (.load, 4, 0) ∗ Φ (.load, 5, 0)) ∗ (Φ (.load, 6, 0) ∗ Φ (.load, 7, 0)))
    ∗ four (fun g q => Φ (.store q g, 0, 0))
    ∗ (four (fun g q => Φ (.send g 0 q, 0, 0)) ∗ four (fun g q => Φ (.send g 1 q, 0, 0)) ∗ four (fun g q => Φ (.send g 2 q, 0, 0)))
    ∗ (four (fun g q => Φ (.recv g 0 q, 0, 0)) ∗ four (fun g q => Φ (.recv g 1 q, 0, 0)) ∗ four (fun g q => Φ (.recv g 2 q, 0, 0))))

theorem tkAll_eq (Φ : Role × ℕ × Fin 4 → sProp (MM F)) : bigSep tkList.toFinset Φ = tkAll Φ := by
  rw [bigSep_eq_bigSepL_of_eq tkList rfl tkList_nodup]
  unfold tkAll four tkList
  simp only [sep_assoc_eq]
  rfl

/-- Which device's cell a device pays a duty of that kind into. -/
def payee (x : Role × ℕ × Fin 4) : Dev nD ≃ Dev nD := match x.1 with
  | .bar => ring (!(x.2.2.val == 1))
  | .credit g => ring (!g)
  | .recv g _ _ => ring g
  | _ => Equiv.refl _

/-- Two sets of indices, in either order. -/
theorem both_orders {ι κ : Type} [DecidableEq ι] (S : Finset ι) (T : Finset κ) (Φ : ι → κ → sProp (MM F)) :
    (bigSep S fun i => bigSep T fun k => Φ i k) = bigSep T fun k => bigSep S fun i => Φ i k := by
  induction S using Finset.induction_on with
  | empty =>
    simp only [BI.bigSep_empty]
    exact (BI.bigSep_emp_const T).symm
  | insert i S hi ih =>
    simp only [BI.bigSep_insert hi]
    rw [ih]
    exact (BI.bigSep_sep T _ _).symm

/-- Pairs, first by first. -/
theorem by_pairs {ι κ : Type} [DecidableEq ι] [DecidableEq κ] (S : Finset ι) (T : Finset κ) (Φ : ι × κ → sProp (MM F)) :
    bigSep (S ×ˢ T) Φ = bigSep S fun i => bigSep T fun k => Φ (i, k) := by
  induction S using Finset.induction_on with
  | empty => simp only [Finset.empty_product, BI.bigSep_empty]
  | insert i S hi ih =>
    have hd : Disjoint (({i} : Finset ι) ×ˢ T) (S ×ˢ T) := Finset.disjoint_product.mpr (.inl (Finset.disjoint_singleton_left.mpr hi))
    rw [Finset.insert_eq, Finset.union_product, BI.bigSep_union hd, ← Finset.insert_eq, BI.bigSep_insert hi, ih, Finset.singleton_product, bigSep_map]
    rfl

/-- Things held at every device are the same things held one ring step away. -/
theorem turn {ι : Type} [DecidableEq ι] (S : Finset ι) (π : ι → Dev nD ≃ Dev nD) (Φ : Dev nD → ι → sProp (MM F)) :
    (bigSep Finset.univ fun c => bigSep S fun x => Φ c x) = bigSep Finset.univ fun c => bigSep S fun x => Φ (π x c) x := by
  rw [both_orders, both_orders Finset.univ S]
  exact bigSep_congr fun x _ => bigSep_univ_equiv (π x) (fun c => Φ c x)

/-- The tokens a device uses. -/
def toks (c : Dev nD) : sProp (MM F) := tkAll fun x => dutyTok ER (cell x.1 (payee x c)) x.2.1 x.2.2

/-- A duty of a device's cell, as a duty of the whole machine's. -/
def tkEmb : Dev nD × (Role × ℕ × Fin 4) ↪ GSem nD τ sig × ℕ × Fin 4 :=
  ⟨fun x => (cell x.2.1 x.1, x.2.2.1, x.2.2.2), fun x y h => by
    obtain ⟨c, ρ, r, d⟩ := x
    obtain ⟨c', ρ', r', d'⟩ := y
    have h1 : c = c' := congrArg (fun z : GSem nD τ sig × ℕ × Fin 4 => z.1.1.1) h
    have h2 : ρ = ρ' := loc_inj (congrArg (fun z : GSem nD τ sig × ℕ × Fin 4 => z.1.2) h)
    have h3 : r = r' := congrArg (fun z : GSem nD τ sig × ℕ × Fin 4 => z.2.1) h
    have h4 : d = d' := congrArg (fun z : GSem nD τ sig × ℕ × Fin 4 => z.2.2) h
    rw [h1, h2, h3, h4]⟩

/-- Every duty's token. -/
def allToks : Finset (GSem nD τ sig × ℕ × Fin 4) := ((Finset.univ : Finset (Dev nD)) ×ˢ tkList.toFinset).map tkEmb

theorem toks_dealt : (bigSep allToks fun x => (dutyTok ER x.1 x.2.1 x.2.2 : sProp (MM F))) = bigSep Finset.univ fun c : Dev nD => toks c := by
  unfold allToks
  rw [bigSep_map, by_pairs]
  show (bigSep Finset.univ fun c : Dev nD => bigSep tkList.toFinset fun x => (dutyTok ER (cell x.1 c) x.2.1 x.2.2 : sProp (MM F))) = _
  rw [turn tkList.toFinset payee fun c x => (dutyTok ER (cell x.1 c) x.2.1 x.2.2 : sProp (MM F))]
  exact bigSep_congr fun c _ => by rw [tkAll_eq]; rfl

/-! ## The slots -/

/-- What a device holds of the slots' releases: its own slots' readers, and the right to write each slot it sends into. -/
def slots (c : Dev nD) : sProp (MM F) :=
  iprop((((Release.readerAt ES ((c, false, 0) : Key) 0 ∗ Release.readerAt ES ((c, false, 1) : Key) 0)
      ∗ (Release.readerAt ES ((c, true, 0) : Key) 0 ∗ Release.readerAt ES ((c, true, 1) : Key) 0)))
    ∗ (((Release.writeTok ES ((nxt false c, false, 0) : Key) 1 ∗ Release.writeTok ES ((nxt false c, false, 1) : Key) 1)
      ∗ (Release.writeTok ES ((nxt true c, true, 0) : Key) 1 ∗ Release.writeTok ES ((nxt true c, true, 1) : Key) 1))))

theorem bigSep_ring_slots (Φ : Bool × Fin 2 → sProp (MM F)) :
    bigSep Finset.univ Φ = iprop((Φ (false, 0) ∗ Φ (false, 1)) ∗ (Φ (true, 0) ∗ Φ (true, 1))) := by
  rw [bigSep_univ_eq_bigSepL [(false, 0), (false, 1), (true, 0), (true, 1)] (by decide) (by decide)]
  rw [sep_assoc_eq]
  rfl

theorem readers_dealt : (bigSep (Finset.univ : Finset Key) fun k => (Release.readerAt ES k 0 : sProp (MM F)))
    = bigSep Finset.univ fun c : Dev nD => iprop(((Release.readerAt ES ((c, false, 0) : Key) 0 ∗ Release.readerAt ES ((c, false, 1) : Key) 0)
      ∗ (Release.readerAt ES ((c, true, 0) : Key) 0 ∗ Release.readerAt ES ((c, true, 1) : Key) 0))) := by
  rw [bigSep_univ_prod]
  exact bigSep_congr fun c _ => bigSep_ring_slots _

theorem writers_dealt : (bigSep ((Finset.univ : Finset Key) ×ˢ Finset.range 1) fun x => (Release.writeTok ES x.1 (x.2 + 1) : sProp (MM F)))
    = bigSep Finset.univ fun c : Dev nD => iprop(((Release.writeTok ES ((nxt false c, false, 0) : Key) 1 ∗ Release.writeTok ES ((nxt false c, false, 1) : Key) 1)
      ∗ (Release.writeTok ES ((nxt true c, true, 0) : Key) 1 ∗ Release.writeTok ES ((nxt true c, true, 1) : Key) 1))) := by
  rw [by_pairs, Finset.range_one]
  simp only [bigSep_singleton]
  rw [bigSep_univ_prod, turn Finset.univ (fun x : Bool × Fin 2 => ring x.1) fun c x => (Release.writeTok ES ((c, x) : Key) 1 : sProp (MM F))]
  exact bigSep_congr fun c _ => bigSep_ring_slots _

/-! ## The credit -/

/-- What each device owes: the purpose of the cell, the ring it lies ahead on, the index, the units. -/
def sites : List (Role × Bool × ℕ × ℕ) :=
  [(.bar, true, 0, 1), (.bar, false, 0, 1),
   (.recv false 0 0, false, 0, NB), (.recv true 0 0, true, 0, NB), (.recv false 0 1, false, 0, NB), (.recv true 0 1, true, 0, NB),
   (.credit false, true, 0, 2), (.credit true, false, 0, 2),
   (.recv false 1 0, false, 0, NB), (.recv true 1 0, true, 0, NB), (.recv false 1 1, false, 0, NB), (.recv true 1 1, true, 0, NB),
   (.credit false, true, 1, 2), (.credit true, false, 1, 2),
   (.recv false 2 0, false, 0, NB), (.recv true 2 0, true, 0, NB), (.recv false 2 1, false, 0, NB), (.recv true 2 1, true, 0, NB)]

theorem due0_eq (c : Dev nD) : due0 c = sites.map fun s => (cell s.1 (nxt s.2.1 c), s.2.2.1, s.2.2.2) := rfl

theorem site_creds (l : List (Role × Bool × ℕ × ℕ)) (c : Dev nD) :
    (Pipeline.launchCred (fun d => tallyL (l.map fun s => (cell s.1 (nxt s.2.1 d), s.2.2.1, s.2.2.2))) c : sProp (MM F))
      ⊢ bigSepL l fun s => cred (tallyAt (cell s.1 c) s.2.2.1 s.2.2.2) := by
  induction l with
  | nil => exact Entails.of_eq (Pipeline.launchCred_zero c)
  | cons s l ih =>
    rw [bigSepL_cons]
    let D (d : Dev nD) : CellTallies nD τ sig ℕ := tallyL (l.map fun s => (cell s.1 (nxt s.2.1 d), s.2.2.1, s.2.2.2))
    let O (d : Dev nD) : CellTallies nD τ sig ℕ := tallyAt (((nxt s.2.1 d : Dev nD) : Thread nD τ), s.1.loc) s.2.2.1 s.2.2.2
    have e : (Pipeline.launchCred (fun d => O d + D d) c : sProp (MM F)) = iprop(Pipeline.launchCred O c ∗ Pipeline.launchCred D c) :=
      Pipeline.launchCred_add O D c
    have h1 : (Pipeline.launchCred O c : sProp (MM F)) ⊢ cred (tallyAt (cell s.1 c) s.2.2.1 s.2.2.2) :=
      Pipeline.launchCred_tallyAt s.1.loc (nxt s.2.1) (prv s.2.1) (nxt_prv s.2.1) (prv_nxt s.2.1) s.2.2.1 s.2.2.2 c
    exact (Entails.of_eq e).trans (BI.sep_mono h1 ih)

/-- The credit of the transfers in of one hop. -/
def recvCred (c : Dev nD) (h : Fin 3) : sProp (MM F) := four fun g q => cred (tallyAt (cell (.recv g h q) c) 0 NB)
/-- The credit of the credits of one hop. -/
def credCred (c : Dev nD) (i : ℕ) : sProp (MM F) :=
  iprop((cred (tallyAt (cell (.credit false) c) i 1) ∗ cred (tallyAt (cell (.credit false) c) i 1))
    ∗ (cred (tallyAt (cell (.credit true) c) i 1) ∗ cred (tallyAt (cell (.credit true) c) i 1)))

/-- All the credit a device starts with. -/
def creds (c : Dev nD) : sProp (MM F) :=
  iprop(cred (tallyAt (cell .bar c) 0 2) ∗ recvCred c 0 ∗ credCred c 0 ∗ recvCred c 1 ∗ credCred c 1 ∗ recvCred c 2)

theorem cred_two (g : GSem nD τ sig) (i : ℕ) :
    (cred (tallyAt g i 2) : sProp (MM F)) = iprop(cred (tallyAt g i 1) ∗ cred (tallyAt g i 1)) := by
  rw [show (tallyAt g i 2 : CellTallies nD τ sig ℕ) = tallyAt g i 1 + tallyAt g i 1 from (tallyAt_add g i 1 1).symm]
  exact (cred_add _ _).1.antisymm (cred_add _ _).2

theorem creds_dealt (c : Dev nD) : (Pipeline.launchCred (fun d => tallyL (due0 d)) c : sProp (MM F)) ⊢ creds c := by
  rw [show (fun d => (tallyL (due0 d) : CellTallies nD τ sig ℕ)) = fun d => tallyL (sites.map fun s => (cell s.1 (nxt s.2.1 d), s.2.2.1, s.2.2.2)) from rfl]
  refine (site_creds sites c).trans (Entails.of_eq ?_)
  unfold creds recvCred credCred four sites
  simp only [chain_cons, bigSepL_singleton, cred_two, sep_assoc_eq]

end Cert.K

end
-- ==== Proof.Ready.lean ====
/-
# From the launch to the kernel's start, and from its end to the counters

A device opens its cells with its counters at zero, and starts the kernel with all it needs. When the kernel is over, every cell
is closed, and every counter stands at zero.
-/
module

public import proofs.«01_k».proof.Proof.Deal

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F] (A : Ops F) {K : GSem nD τ sig → ℕ} {ιs : Key → ℕ}

/-! ## Opening -/

/-- The semaphores of the kernel's own: all but the handshake's. -/
abbrev osem (k : {ρ : Role // ρ ≠ .bar}) : SemLoc sig := k.1.loc

theorem ownSems_eq (c : Dev nD) :
    (Pipeline.ownSems0 osem c : sProp (MM F)) = bigSep (Finset.univ.erase Role.bar) fun ρ => semVal (cell ρ c) 0 := by
  unfold Pipeline.ownSems0
  rw [← Finset.filter_ne' Finset.univ Role.bar]
  exact bigSep_subtype (fun ρ : Role => ρ ≠ .bar) (fun ρ => (semVal (cell ρ c) 0 : sProp (MM F)))

/-- Where every cell stands at the start. -/
def stands (c : Dev nD) (ρ : Role) : sProp (MM F) := iprop(atPos ER (cell ρ c) 0 ∅ 0 ∗ reached ER (cell ρ c) 0)

theorem open_all (c : Dev nD) :
    iprop(ctx A K ιs ∗ (bigSep (Finset.univ.erase Role.bar) fun ρ => openTok ER (cell ρ c)) ∗ bigSep (Finset.univ.erase Role.bar) fun ρ => semVal (cell ρ c) 0)
      ⊢ (|={Set.univ}=> scAll (stands c) : sProp (MM F)) := by
  rw [← scAll_eq]
  refine BIBase.Entails.trans ?_ (bigSep_fupd (Finset.univ.erase Role.bar) (stands c))
  iintro ⟨#HI, Ho, Hv⟩
  iapply (bigSep_with_persistent (R := ctx A K ιs) (Φ := fun ρ => iprop(openTok ER (cell ρ c) ∗ semVal (cell ρ c) 0)) (fun ρ _ => by
    iintro ⟨#HI, Ho, Hv⟩
    unfold stands
    iapply (Rounds.cell_open ER (Rd A) (g := cell ρ c) (Set.mem_univ (K (cell ρ c))))
    isplitr; · iapply (ctx_cell A ρ c); iexact HI
    isplitl [Ho] <;> iassumption))
  isplitr; · iexact HI
  iapply (Entails.of_eq (bigSep_sep' (Finset.univ.erase Role.bar) (fun ρ => (openTok ER (cell ρ c) : sProp (MM F))) (fun ρ => semVal (cell ρ c) 0)).symm)
  isplitl [Ho] <;> iassumption

/-! ## Closing -/

/-- The round after a cell's last. -/
def lastR : Role → ℕ
  | .load => 8
  | _ => 1

theorem lastR_duties (ρ : Role) (c : Dev nD) : ∀ r, lastR ρ ≤ r → (Rd A).duties (cell ρ c) r = ∅ := by
  cases ρ with
  | load => exact Rd_later_load A c
  | _ => exact Rd_later A c _ (by intro h; cases h)

theorem close_one (ρ : Role) (c : Dev nD) :
    iprop(ctx A K ιs ∗ atPos ER (cell ρ c) (lastR ρ) ∅ 0) ⊢ (|={Set.univ}=> semVal (cell ρ c) 0 : sProp (MM F)) := by
  iintro ⟨#HI, Ha⟩
  iapply (Rounds.cell_close ER (Rd A) (g := cell ρ c) (Set.mem_univ (K (cell ρ c))) (fun h => h) (R := lastR ρ) (lastR_duties A ρ c))
  isplitr; · iapply (ctx_cell A ρ c); iexact HI
  iexact Ha

theorem close_all (c : Dev nD) :
    iprop(ctx A K ιs ∗ scAll fun ρ => atPos ER (cell ρ c) (lastR ρ) ∅ 0)
      ⊢ (|={Set.univ}=> bigSep (Finset.univ.erase Role.bar) fun ρ => semVal (cell ρ c) 0 : sProp (MM F)) := by
  rw [← scAll_eq]
  refine BIBase.Entails.trans ?_ (bigSep_fupd (Finset.univ.erase Role.bar) fun ρ => semVal (cell ρ c) 0)
  exact bigSep_with_persistent (R := ctx A K ιs) (fun ρ _ => close_one A ρ c)

/-! ## All a device starts from -/

/-- The ghost state of device `c`, its cells open. -/
def ghost (c : Dev nD) : sProp (MM F) :=
  iprop((bigSep Finset.univ fun d : Dev nD => reached ER (cell .bar d) 0) ∗ atPos ER (cell .bar c) 0 ∅ 0 ∗ scAll (stands c) ∗ toks c ∗ slots c ∗ creds c)

/-- The memory the kernel starts from. -/
def memAll (c : Dev nD) (wM : Memref sig .tc .vmem S1024x4096 .bf16) : sProp (MM F) :=
  iprop(mem A c wM ∗ (anyBlk (pM false) c Finset.univ ∗ anyBlk (pM true) c Finset.univ)
    ∗ ((anySlot false c 0 ∗ anySlot true c 0) ∗ (anySlot false c 1 ∗ anySlot true c 1)) ∗ anyBlk outM c Finset.univ)

theorem bars_at (d : Dev nD) : (bigSep Finset.univ fun d : Dev nD => (reached ER (cell .bar d) 0 : sProp (MM F))) ⊢ reached ER (cell .bar d) 0 :=
  bigSep_elim (Finset.mem_univ d)

/-- One hop's share: the send and receive cells, the tokens, the credit. -/
theorem hop_gather (c : Dev nD) (h : Fin 3) :
    iprop(four (fun g q => stands c (.send g h q)) ∗ four (fun g q => stands c (.recv g h q)) ∗ recvCred c h
        ∗ four (fun g q => dutyTok ER (cell (.send g h q) c) 0 0) ∗ four (fun g q => dutyTok ER (cell (.recv g h q) (nxt g c)) 0 0)
        ∗ (loadTok c (2 * (h.val + 1)) ∗ loadTok c (2 * (h.val + 1) + 1)))
      ⊢ iprop(hopRes (F := F) c h) := by
  unfold hopRes four stands recvCred four tok sendWait recvWait
  iintro ⟨⟨⟨S0, #s0⟩, ⟨S1, #s1⟩, ⟨S2, #s2⟩, ⟨S3, #s3⟩⟩, ⟨⟨V0, -⟩, ⟨V1, -⟩, ⟨V2, -⟩, ⟨V3, -⟩⟩, ⟨C0, C1, C2, C3⟩, ⟨T0, T1, T2, T3⟩, ⟨U0, U1, U2, U3⟩, HL⟩
  isplitl [T0 T1 T2 T3 U0 U1 U2 U3]
  · isplitl [T0 U0]
    · isplitl [T0]; · isplitl [T0]; · iexact T0
                      iexact s0
      iexact U0
    isplitl [T1 U1]
    · isplitl [T1]; · isplitl [T1]; · iexact T1
                      iexact s1
      iexact U1
    isplitl [T2 U2]
    · isplitl [T2]; · isplitl [T2]; · iexact T2
                      iexact s2
      iexact U2
    isplitl [T3]; · isplitl [T3]; · iexact T3
                    iexact s3
    iexact U3
  isplitl [S0 S1 S2 S3]
  · isplitl [S0]; · iexact S0
    isplitl [S1]; · iexact S1
    isplitl [S2]; · iexact S2
    iexact S3
  isplitl [V0 V1 V2 V3 C0 C1 C2 C3]
  · isplitl [V0 C0]; · isplitl [V0]; · iexact V0
                       iexact C0
    isplitl [V1 C1]; · isplitl [V1]; · iexact V1
                       iexact C1
    isplitl [V2 C2]; · isplitl [V2]; · iexact V2
                       iexact C2
    isplitl [V3]; · iexact V3
    iexact C3
  iexact HL

/-- That the receive cells of one hop stand at their start. -/
def recvMarks (c : Dev nD) (h : Fin 3) : sProp (MM F) := four fun g q => reached ER (cell (.recv g h q) c) 0

instance recvMarks_persistent (c : Dev nD) (h : Fin 3) : Persistent (recvMarks (F := F) c h) := by unfold recvMarks four; infer_instance

theorem recv_marks (c : Dev nD) (h : Fin 3) : four (fun g q => stands c (.recv g h q)) ⊢ iprop(recvMarks (F := F) c h ∗ four (fun g q => stands c (.recv g h q))) := by
  unfold recvMarks four stands
  iintro ⟨⟨V0, #v0⟩, ⟨V1, #v1⟩, ⟨V2, #v2⟩, ⟨V3, #v3⟩⟩
  isplitr
  · isplitr; · iexact v0
    isplitr; · iexact v1
    isplitr; · iexact v2
    iexact v3
  isplitl [V0]; · isplitl [V0]; · iexact V0
                  iexact v0
  isplitl [V1]; · isplitl [V1]; · iexact V1
                  iexact v1
  isplitl [V2]; · isplitl [V2]; · iexact V2
                  iexact v2
  isplitl [V3]; · iexact V3
  iexact v3

theorem marks_ring (c : Dev nD) (g : Bool) :
    iprop(recvMarks c 0 ∗ recvMarks c 1 ∗ recvMarks c 2)
      ⊢ (bigSep (Finset.univ : Finset (Fin 3 × Fin 2)) fun x => reached ER (cell (.recv g x.1 x.2) c) 0 : sProp (MM F)) := by
  rw [bigSep_univ_eq_bigSepL [(0, 0), (0, 1), (1, 0), (1, 1), (2, 0), (2, 1)] (by decide) (by decide)]
  simp only [chain_cons, bigSepL_singleton]
  unfold recvMarks four
  iintro ⟨⟨#a0, #a1, #a2, #a3⟩, ⟨#b0, #b1, #b2, #b3⟩, ⟨#c0, #c1, #c2, #c3⟩⟩
  cases g
  · isplitr; · iexact a0
    isplitr; · iexact a2
    isplitr; · iexact b0
    isplitr; · iexact b2
    isplitr; · iexact c0
    iexact c2
  · isplitr; · iexact a1
    isplitr; · iexact a3
    isplitr; · iexact b1
    isplitr; · iexact b3
    isplitr; · iexact c1
    iexact c3

/-- What the handshake gives, for one ring. -/
theorem bar_gather (c : Dev nD) (g : Bool) :
    iprop((bigSep Finset.univ fun d : Dev nD => reached ER (cell .bar d) 0) ∗ (recvMarks c 0 ∗ recvMarks c 1 ∗ recvMarks c 2) ∗ reached ER (cell (.credit (!g)) c) 0
        ∗ dutyTok ER (cell .bar (prv g c)) 0 (bif g then 1 else 0) ∗ anySlot g c 1)
      ⊢ (barGive c g : sProp (MM F)) := by
  unfold barGive
  iintro ⟨#HB, #HM, #HC, HT, HS⟩
  isplitl [HT]
  · isplitl [HT]; · iexact HT
    iapply (bars_at (prv g c)); iexact HB
  isplitl [HS]; · iexact HS
  isplitr; · iapply (marks_ring c g); iexact HM
  iexact HC

/-- What one ring's credits use. -/
theorem cred_gather (c : Dev nD) (g : Bool) :
    iprop(atPos ER (cell (.credit g) c) 0 ∅ 0
        ∗ (cred (tallyAt (cell (.credit g) c) 0 1) ∗ cred (tallyAt (cell (.credit g) c) 0 1))
        ∗ (cred (tallyAt (cell (.credit g) c) 1 1) ∗ cred (tallyAt (cell (.credit g) c) 1 1))
        ∗ (Release.writeTok ES ((nxt g c, g, 0) : Key) 1 ∗ Release.writeTok ES ((nxt g c, g, 1) : Key) 1)
        ∗ (Release.readerAt ES ((c, g, 0) : Key) 0 ∗ Release.readerAt ES ((c, g, 1) : Key) 0)
        ∗ ((dutyTok ER (cell (.credit g) (prv g c)) 0 0 ∗ dutyTok ER (cell (.credit g) (prv g c)) 0 1)
          ∗ (dutyTok ER (cell (.credit g) (prv g c)) 0 2 ∗ dutyTok ER (cell (.credit g) (prv g c)) 0 3)))
      ⊢ (credRes c g : sProp (MM F)) := by
  unfold credRes
  iintro ⟨Ha, C0, C1, ⟨W0, W1⟩, ⟨R0, R1⟩, ⟨T0, T1⟩⟩
  isplitl [Ha]; · iexact Ha
  isplitl [C0 W0]; · isplitl [C0]; · iexact C0
                     iexact W0
  isplitl [C1 W1]; · isplitl [C1]; · iexact C1
                     iexact W1
  isplitl [R0 T0]; · isplitl [R0]; · iexact R0
                     iexact T0
  isplitl [R1]; · iexact R1
  iexact T1

theorem store_gather (c : Dev nD) :
    iprop(four (fun g q => stands c (.store q g)) ∗ four (fun g q => dutyTok ER (cell (.store q g) c) 0 0))
      ⊢ (iprop(four (fun g q => storeTok c g q) ∗ four (fun g q => storeWait c g q)) : sProp (MM F)) := by
  unfold four stands storeTok storeWait
  iintro ⟨⟨⟨S0, #s0⟩, ⟨S1, #s1⟩, ⟨S2, #s2⟩, ⟨S3, #s3⟩⟩, ⟨T0, T1, T2, T3⟩⟩
  isplitl [T0 T1 T2 T3]
  · isplitl [T0]; · isplitl [T0]; · iexact T0
                    iexact s0
    isplitl [T1]; · isplitl [T1]; · iexact T1
                    iexact s1
    isplitl [T2]; · isplitl [T2]; · iexact T2
                    iexact s2
    isplitl [T3]; · iexact T3
    iexact s3
  isplitl [S0]; · iexact S0
  isplitl [S1]; · iexact S1
  isplitl [S2]; · iexact S2
  iexact S3

set_option maxHeartbeats 800000 in
/-- All of it. -/
theorem gather (c : Dev nD) (wM : Memref sig .tc .vmem S1024x4096 .bf16) : iprop(ghost c ∗ memAll A c wM) ⊢ runIn A c wM := by
  unfold ghost memAll runIn barRes memIn scAll toks tkAll slots creds credCred
  iintro ⟨⟨#HB, HaB, ⟨⟨Gf, Gt⟩, Hl, St, ⟨S0, S1, S2⟩, ⟨V0, V1, V2⟩⟩,
    ⟨⟨B0, B1⟩, Xf, Xt, ⟨L0, L1, L2, L3⟩, Tst, ⟨TS0, TS1, TS2⟩, ⟨TV0, TV1, TV2⟩⟩,
    ⟨⟨Rf, Rt⟩, ⟨Wf, Wt⟩⟩, ⟨CB, CV0, ⟨Cf0, Ct0⟩, CV1, ⟨Cf1, Ct1⟩, CV2⟩⟩, ⟨Hm, Hp, ⟨Hs0, ⟨Hs1, Hs1'⟩⟩, Ho⟩⟩
  ihave V0 := (recv_marks c 0) $$ V0
  icases V0 with ⟨#m0, V0⟩
  ihave V1 := (recv_marks c 1) $$ V1
  icases V1 with ⟨#m1, V1⟩
  ihave V2 := (recv_marks c 2) $$ V2
  icases V2 with ⟨#m2, V2⟩
  ihave Gf := (Entails.of_eq (show stands c (.credit false) = iprop(atPos ER (cell (.credit false) c) 0 ∅ 0 ∗ reached ER (cell (.credit false) c) 0) from rfl)) $$ Gf
  icases Gf with ⟨Gf, #gf⟩
  ihave Gt := (Entails.of_eq (show stands c (.credit true) = iprop(atPos ER (cell (.credit true) c) 0 ∅ 0 ∗ reached ER (cell (.credit true) c) 0) from rfl)) $$ Gt
  icases Gt with ⟨Gt, #gt⟩
  isplitl [B0 B1 HaB CB Hs1 Hs1']
  · isplitl [B0 Hs1]
    · iapply (bar_gather c false)
      isplitr; · iexact HB
      isplitr
      · isplitr; · iexact m0
        isplitr; · iexact m1
        iexact m2
      isplitr; · iexact gt
      isplitl [B0]; · iexact B0
      iexact Hs1
    isplitl [B1 Hs1']
    · iapply (bar_gather c true)
      isplitr; · iexact HB
      isplitr
      · isplitr; · iexact m0
        isplitr; · iexact m1
        iexact m2
      isplitr; · iexact gf
      isplitl [B1]; · iexact B1
      iexact Hs1'
    isplitl [HaB]; · iexact HaB
    iexact CB
  isplitl [Hl L0]
  · isplitl [Hl]; · iapply (Entails.of_eq (show stands c .load = loadSt c 0 from rfl)); iexact Hl
    iexact L0
  isplitl [Hm Hp Hs0 Ho]
  · isplitl [Hm]; · iexact Hm
    isplitl [Hp]; · iexact Hp
    isplitl [Hs0]; · iexact Hs0
    iexact Ho
  isplitl [S0 S1 S2 V0 V1 V2 CV0 CV1 CV2 TS0 TS1 TS2 TV0 TV1 TV2 L1 L2 L3]
  · isplitl [S0 V0 CV0 TS0 TV0 L1]
    · iapply (hop_gather c 0)
      isplitl [S0]; · iexact S0
      isplitl [V0]; · iexact V0
      isplitl [CV0]; · iexact CV0
      isplitl [TS0]; · iexact TS0
      isplitl [TV0]; · iexact TV0
      iexact L1
    isplitl [S1 V1 CV1 TS1 TV1 L2]
    · iapply (hop_gather c 1)
      isplitl [S1]; · iexact S1
      isplitl [V1]; · iexact V1
      isplitl [CV1]; · iexact CV1
      isplitl [TS1]; · iexact TS1
      isplitl [TV1]; · iexact TV1
      iexact L2
    iapply (hop_gather c 2)
    isplitl [S2]; · iexact S2
    isplitl [V2]; · iexact V2
    isplitl [CV2]; · iexact CV2
    isplitl [TS2]; · iexact TS2
    isplitl [TV2]; · iexact TV2
    iexact L3
  isplitl [Gf Gt Cf0 Ct0 Cf1 Ct1 Rf Rt Wf Wt Xf Xt]
  · isplitl [Gf Cf0 Cf1 Rf Wf Xf]
    · iapply (cred_gather c false)
      isplitl [Gf]; · iexact Gf
      isplitl [Cf0]; · iexact Cf0
      isplitl [Cf1]; · iexact Cf1
      isplitl [Wf]; · iexact Wf
      isplitl [Rf]; · iexact Rf
      iexact Xf
    iapply (cred_gather c true)
    isplitl [Gt]; · iexact Gt
    isplitl [Ct0]; · iexact Ct0
    isplitl [Ct1]; · iexact Ct1
    isplitl [Wt]; · iexact Wt
    isplitl [Rt]; · iexact Rt
    iexact Xt
  iapply (store_gather c)
  isplitl [St]; · iexact St
  iexact Tst

/-! ## All a device ends with -/

/-- The positions at the end, and the memory. -/
theorem scatter (c : Dev nD) (wM : Memref sig .tc .vmem S1024x4096 .bf16) :
    runOut A c wM ⊢ iprop(atPos ER (cell .bar c) (lastR .bar) ∅ 0 ∗ (scAll fun ρ => atPos ER (cell ρ c) (lastR ρ) ∅ 0) ∗ memOut A c wM) := by
  unfold runOut hopDone scAll loadSt
  iintro ⟨Hb, ⟨Hl, -⟩, Hm, ⟨⟨S0, V0⟩, ⟨S1, V1⟩, ⟨S2, V2⟩⟩, HC, HS⟩
  isplitl [Hb]; · iexact Hb
  isplitr [Hm]
  · isplitl [HC]; · iexact HC
    isplitl [Hl]; · iexact Hl
    isplitl [HS]; · iexact HS
    isplitl [S0 S1 S2]
    · isplitl [S0]; · iexact S0
      isplitl [S1]; · iexact S1
      iexact S2
    isplitl [V0]; · iexact V0
    isplitl [V1]; · iexact V1
    iexact V2
  iexact Hm

end Cert.K

end
-- ==== Proof.Body.lean ====
/-
# The region's body

The kernel's obligation at the one point of its region: from the memory as the host operations left it and the ghost state of the
launch, the body runs, and leaves the result in `main_v3`, the left operand as it was, every counter at zero and nothing owed.
-/
module

public import proofs.«01_k».proof.Proof.Ready
public import proofs.«01_k».proof.Proof.Gen.KernelIdeal.Frame
public import Idealize.ShloMosaic.Lib.Pipeline.RegionTalk

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation)

variable {F : FTy → Type} [FloatOps F]

/-! ## Whole buffers as blocks -/

/-- Device `c`'s whole buffer `b`, at `f`. -/
abbrev pts (c : Dev nD) (b : Ref sig .tc) (f : Buf (Elt F) ((c : Thread nD τ).loc b)) : sProp (MM F) :=
  (c : Thread nD τ).loc b ↦{fullShare} f
/-- The same at contents not named. -/
abbrev anyPts (c : Dev nD) (b : Ref sig .tc) : sProp (MM F) :=
  iprop(∃ f : Buf (Elt F) ((c : Thread nD τ).loc b), (c : Thread nD τ).loc b ↦{fullShare} f)

theorem setOn_whole (b : Ref sig .tc) : (Memref.whole b).view.setOn Finset.univ = Finset.univ :=
  (View.setOn_univ _).trans (View.set_whole b)

theorem any_whole (c : Dev nD) (b : Ref sig .tc) : (anyPts (F := F) c b) = anyBlk (Memref.whole b) c Finset.univ := by
  unfold anyBlk Release.slot
  rw [setOn_whole]

theorem whole_blk (c : Dev nD) (b : Ref sig .tc) (f : Buf (Elt F) ((c : Thread nD τ).loc b)) :
    pts c b f ⊢ blk (Memref.whole b) c Finset.univ f := by
  unfold blk
  rw [setOn_whole]
  iintro H
  iexists f
  isplitr
  · ipureintro; exact fun i _ => rfl
  iexact H

theorem blk_whole (c : Dev nD) (b : Ref sig .tc) (f : Buf (Elt F) ((c : Thread nD τ).loc b)) :
    blk (Memref.whole b) c Finset.univ f ⊢ pts c b f := by
  unfold blk
  rw [setOn_whole]
  iintro ⟨%g, %hg, H⟩
  have e : g = f := funext fun i => hg i (Finset.mem_univ i)
  subst e
  iexact H

/-- The window's staging buffer. -/
theorem owns_blk {sp : Space} {s : Shape} {e : EltTy} (M : Memref sig .tc sp s e) (c : Dev nD) (X : s.Idx → Elt F e) :
    (owns (c : Thread nD τ) M fullShare X : sProp (MM F)) = blk M c Finset.univ X := by
  unfold owns blk
  refine congrArg BIBase.exists (funext fun f => ?_)
  rw [View.setOn_univ]
  congr 2
  exact propext ⟨fun h i _ => congrFun h i, fun h => funext fun i => h i (Finset.mem_univ i)⟩

theorem slots_univ : slotSet 0 ∪ slotSet 1 = Finset.univ := by
  refine Finset.eq_univ_of_forall fun i => Finset.mem_union.mpr ?_
  rw [mem_slot, mem_slot]
  have h : (i 0).val < 2 := (i 0).isLt
  rcases Nat.lt_or_ge (i 0).val 1 with h' | h'
  · exact .inl (by rw [show ((0 : Fin 2).val) = 0 from rfl]; omega)
  · exact .inr (by rw [show ((1 : Fin 2).val) = 1 from rfl]; omega)

theorem slots_disjoint : Disjoint (slotSet 0) (slotSet 1) := by
  rw [Finset.disjoint_left]
  intro i h0 h1
  rw [mem_slot] at h0 h1
  rw [h0] at h1
  exact absurd h1 (by decide)

/-- The two slots of one ring on a device are its buffer. -/
theorem slots_split (g : Bool) (c : Dev nD) : anyBlk (F := F) (cM g) c Finset.univ ⊢ iprop(anySlot g c 0 ∗ anySlot g c 1) := by
  rw [← slots_univ]; exact any_split slots_disjoint
theorem slots_join (g : Bool) (c : Dev nD) : iprop(anySlot (F := F) g c 0 ∗ anySlot g c 1) ⊢ anyBlk (cM g) c Finset.univ := by
  rw [← slots_univ]; exact any_join slots_disjoint

/-! ## The kernel from the launch's state -/

section Kernel

variable (A : Ops F) {K : GSem nD τ sig → ℕ} {ιs : Key → ℕ}

/-- The counters at zero. -/
def zeros (c : Dev nD) : sProp (MM F) :=
  iprop(semVal (cell .bar c) 0 ∗ bigSep (Finset.univ.erase Role.bar) fun ρ => semVal (cell ρ c) 0)

/-- The body starts by reading the device's number. -/
theorem prog_op (wM : Memref sig .tc .vmem S1024x4096 .bf16) : prog (F := F) wM = .op .deviceId fun d => progAt wM d := rfl

theorem wp_device (c : Dev nD) {α : Type} (k : Dev nD → P (F := F) α) (Q : α → sProp (MM F)) :
    wpK c (.op .deviceId k) Q = wpK c (k c) Q := wp_deviceId ..

/-- The kernel, from the ghost state and the memory to the counters and the memory. -/
theorem kernel_step (c : Dev nD) (wM : Memref sig .tc .vmem S1024x4096 .bf16) (Q : PUnit → sProp (MM F)) :
    iprop(ctx A K ιs ∗ own c (due0 c) ∗ ghost c ∗ memAll A c wM) ⊢ iprop((iprop(own c [] ∗ zeros c ∗ memOut A c wM) -∗ Q ⟨⟩) -∗ wpK c (prog wM) Q) := by
  rw [prog_op, wp_device, progAt_eq]
  iintro ⟨#HI, HO, Hg, Hm⟩ Hk
  unfold wpK
  iapply (wp_fupd _ _ _ (progC wM c) Q)
  iapply (run_step A c wM) $$ [HO Hg Hm]
  · isplitr; · iexact HI
    isplitl [HO]; · iexact HO
    iapply (gather A c wM)
    isplitl [Hg] <;> iassumption
  iintro ⟨HO, Hr⟩
  ihave Hr := (scatter A c wM) $$ Hr
  icases Hr with ⟨Hb, Ha, Hm⟩
  imod (close_one A .bar c) $$ [Hb] with Hb
  · isplitr; · iexact HI
    iexact Hb
  imod (close_all A c) $$ [Ha] with Ha
  · isplitr; · iexact HI
    iexact Ha
  imodintro
  iapply Hk
  isplitl [HO]; · iexact HO
  isplitl [Hb Ha]
  · unfold zeros; isplitl [Hb] <;> iassumption
  iexact Hm

end Kernel

end Cert.K

end
-- ==== Proof.Region.lean ====
/-
# The region

The kernel's region as the pipeline library takes it: its proof data, its body obligation, what enters its invariant and what
leaves it.
-/
module

public import proofs.«01_k».proof.Proof.Body

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation)

variable {F : FTy → Type} [FloatOps F] (m : (ℓ : Loc nD τ sig) → Buf (Elt F) ℓ)

/-! ## Contents -/

/-- Every device's buffers when the region is entered. -/
abbrev W₁ (c : Dev nD) : Valuation τ sig (Elt F) := StableHlo.after hostOps0 (fun b => m (c, b))

/-- The operands as the kernel finds them. -/
def opsOf : Ops F where
  o c := V m c main_v1
  w c := iblk m c 0 t0_0

/-- Every device's buffers when the region is left: the result is in `main_v3`. -/
abbrev W₂ (c : Dev nD) : Valuation τ sig (Elt F) := Function.update (W₁ m c) (Proc.devRef .tc main_v3) (outV (opsOf m) c)

theorem W₂_v3 (c : Dev nD) : W₂ m c main_v3 = outV (opsOf m) c := Function.update_self ..
theorem W₂_v1 (c : Dev nD) : W₂ m c main_v1 = W₁ m c main_v1 := Function.update_of_ne (by decide) ..

/-- The buffers the kernel uses directly. -/
def used : Finset (DevRef τ sig) := {Proc.devRef .tc main_v1, Proc.devRef .tc main_v3}
/-- The program's buffers outside the kernel but for the window's array. -/
def others : Finset (DevRef τ sig) := {Proc.devRef .tc main_arg0, Proc.devRef .tc main_arg1, Proc.devRef .tc main_v1, Proc.devRef .tc main_v3}

theorem used_sub : used ⊆ others := by unfold used others; decide

theorem used_eq (c : Dev nD) (W : Valuation τ sig (Elt F)) : (StableHlo.held (c : Thread nD τ) used W : sProp (MM F))
    = iprop(pts c main_v1 (W main_v1) ∗ pts c main_v3 (W main_v3)) := by
  unfold StableHlo.held
  rw [bigSep_eq_bigSepL_of_eq [Proc.devRef .tc main_v1, Proc.devRef .tc main_v3] (by unfold used; decide) (by decide)]
  rfl

/-! ## The proof data -/

/-- What enters the region's invariant from the launch. -/
def Xk (c : Dev nD) : sProp (MM F) := iprop(∃ K ιs, ctx (opsOf m) K ιs ∗ ghost c)

/-- The scratch buffers of the kernel, at contents not named. -/
abbrev scratch (c : Dev nD) : sProp (MM F) :=
  iprop(anyPts c cc0_scratch0 ∗ anyPts c cc0_scratch1 ∗ anyPts c cc0_scratch2 ∗ anyPts c cc0_scratch3 ∗ anyPts c cc0_scratch4)

/-- Before the kernel. -/
def before (c : Dev nD) : sProp (MM F) :=
  iprop(Xk m c ∗ StableHlo.held (c : Thread nD τ) used (W₁ m c) ∗ scratch c ∗ ∃ r, prngReg c r)
/-- After it. -/
def after (c : Dev nD) : sProp (MM F) :=
  iprop(zeros c ∗ StableHlo.held (c : Thread nD τ) used (W₂ m c) ∗ scratch c ∗ ∃ r, prngReg c r)

/-- The region's proof data: the device owes everything before its one point, nothing after it. -/
def dat0 (c : Dev nD) : Dat τ (Elt F) ℕ ℕ UU ℕ cfg0 c where
  A w := V m c (Pipeline.arrRef spec0 w)
  after
    | 0 => fun t => iblk m c 0 t
  Φ t := if t.val = 0 then before m c else after m c
  q _ := fullShare
  owed t := if t.val = 0 then tallyL (due0 c) else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

theorem owed_first (c : Dev nD) : (dat0 (F := F) m c).owed t0_0.castSucc = tallyL (due0 c) := by
  show (if (t0_0.castSucc : Fin (cfg0.N + 1)).val = 0 then tallyL (due0 c) else 0) = _; exact if_pos rfl
theorem owed_zero (c : Dev nD) : (dat0 (F := F) m c).owed 0 = tallyL (due0 c) := by
  show (if (0 : Fin (cfg0.N + 1)).val = 0 then tallyL (due0 c) else 0) = _; exact if_pos rfl
theorem owed_last (c : Dev nD) : (dat0 (F := F) m c).owed (Fin.last _) = 0 := by
  show (if (Fin.last cfg0.N).val = 0 then tallyL (due0 c) else 0) = 0
  rw [Fin.val_last, if_neg (by rw [show cfg0.N = 1 from N_0]; decide)]
theorem owed_succ (c : Dev nD) : (dat0 (F := F) m c).owed t0_0.succ = 0 := owed_last m c

theorem Φ_first (c : Dev nD) : (dat0 (F := F) m c).Φ t0_0.castSucc = before m c := by
  show (if (t0_0.castSucc : Fin (cfg0.N + 1)).val = 0 then before m c else after m c) = _; exact if_pos rfl
theorem Φ_zero (c : Dev nD) : (dat0 (F := F) m c).Φ 0 = before m c := by
  show (if (0 : Fin (cfg0.N + 1)).val = 0 then before m c else after m c) = _; exact if_pos rfl
theorem Φ_last (c : Dev nD) : (dat0 (F := F) m c).Φ (Fin.last _) = after m c := by
  show (if (Fin.last cfg0.N).val = 0 then before m c else after m c) = _
  rw [Fin.val_last, if_neg (by rw [show cfg0.N = 1 from N_0]; decide)]
theorem Φ_succ (c : Dev nD) : (dat0 (F := F) m c).Φ t0_0.succ = after m c := Φ_last m c

/-- The staging buffer holds the window's block when the body starts. -/
theorem before_block (c : Dev nD) (t : Fin cfg0.N) (d) : (dat0 m c).before 0 t d = iblk m c 0 t :=
  ((dat0 m c).before_in_eq_fetched 0 rfl (fun _ => rfl) (fun _ _ _ => rfl) (fun t => by rfl) t d).trans (by rfl)

/-- What a core owes at a point, from its tallies. -/
theorem owes_in (c : Dev nD) (t : Fin (cfg0.N + 1)) (O : CellTallies nD τ sig ℕ) (h : (dat0 m c).owed t = O) :
    iprop(∃ W, owes (c : Thread nD τ) O W) ⊢ ((dat0 m c).owesAt 0 t : sProp (MM F)) := by
  unfold Dat.owesAt Pipeline.owesWithin Dat.bound
  rw [h]
  iintro ⟨%W, HO⟩
  iexists W
  isplitr
  · ipureintro; exact fun _ _ => Or.inl trivial
  iexact HO
/-- Its tallies, from what it owes at a point. -/
theorem owes_out (c : Dev nD) (t : Fin (cfg0.N + 1)) (O : CellTallies nD τ sig ℕ) (h : (dat0 m c).owed t = O) :
    ((dat0 m c).owesAt 0 t : sProp (MM F)) ⊢ iprop(∃ W, owes (c : Thread nD τ) O W) := by
  unfold Dat.owesAt Pipeline.owesWithin
  rw [h]
  iintro ⟨%W, -, HO⟩
  iexists W
  iexact HO

/-! ## The body obligation -/

/-- The memory the kernel starts from, out of the buffers. -/
theorem mem_in (c : Dev nD) (wM : Memref sig .tc .vmem S1024x4096 .bf16) :
    iprop(StableHlo.held (c : Thread nD τ) used (W₁ m c) ∗ scratch c ∗ blk wM c Finset.univ ((opsOf m).w c)) ⊢ memAll (opsOf m) c wM := by
  unfold memAll mem scratch
  rw [used_eq, any_whole, any_whole, any_whole, any_whole, any_whole]
  iintro ⟨⟨Ho, Hout⟩, ⟨H0, H1, H2, H3, H4⟩, Hw⟩
  ihave H0 := (show anyBlk (Memref.whole cc0_scratch0) c Finset.univ ⊢ _ from slots_split false c) $$ H0
  ihave H1 := (show anyBlk (Memref.whole cc0_scratch1) c Finset.univ ⊢ _ from slots_split true c) $$ H1
  icases H0 with ⟨A0, A1⟩
  icases H1 with ⟨B0, B1⟩
  isplitl [Ho H2 Hw]
  · isplitl [Ho]
    · iapply (whole_blk c main_v1 (W₁ m c main_v1)); iexact Ho
    isplitl [H2] <;> iassumption
  isplitl [H3 H4]
  · isplitl [H3]
    · iexact H3
    · iexact H4
  isplitl [A0 A1 B0 B1]
  · isplitl [A0 B0]
    · isplitl [A0] <;> iassumption
    · isplitl [A1] <;> iassumption
  iapply blk_any
  iapply (whole_blk c main_v3 (W₁ m c main_v3)); iexact Hout

/-- The buffers, out of the memory the kernel leaves. -/
theorem mem_out (c : Dev nD) (wM : Memref sig .tc .vmem S1024x4096 .bf16) :
    memOut (opsOf m) c wM ⊢ iprop(StableHlo.held (c : Thread nD τ) used (W₂ m c) ∗ scratch c ∗ blk wM c Finset.univ ((opsOf m).w c)) := by
  unfold memOut mem scratch
  rw [used_eq, any_whole, any_whole, any_whole, any_whole, any_whole, W₂_v1, W₂_v3]
  iintro ⟨⟨Ho, H2, Hw⟩, ⟨H3, H4⟩, ⟨⟨A0, B0⟩, ⟨A1, B1⟩⟩, Hout⟩
  isplitl [Ho Hout]
  · isplitl [Ho]
    · iapply (blk_whole c main_v1 (W₁ m c main_v1)); iexact Ho
    · iapply (blk_whole c main_v3 (outV (opsOf m) c)); iexact Hout
  isplitr [Hw]
  · isplitl [A0 A1]
    · iapply (slots_join false c); isplitl [A0] <;> iassumption
    isplitl [B0 B1]
    · iapply (slots_join true c); isplitl [B0] <;> iassumption
    isplitl [H2]; · iexact H2
    isplitl [H3]
    · iexact H3
    · iexact H4
  iexact Hw

/-- What the region calls at its point is the body. -/
theorem call_eq : defs₀ (F := F) .tc cfg0.body (cfg0.bodyArgs t0_0 (cfg0.slots t0_0)) = prog (win0_0.stage (cfg0.slots t0_0 0)) :=
  body_eq (win0_0.stage (cfg0.slots t0_0 0)) (hstage0_0 0)

set_option maxRecDepth 65536 in
/-- The kernel at its one point. -/
theorem body0 (c : Dev nD) : BodyObligation (dat0 (F := F) m c) defs₀ 𝒱₀ 0 Set.univ := fun t => by
  obtain rfl := fin_N0 t
  rw [bigSep_W0, bigSep_W0, Φ_first, Φ_succ]
  show iprop(before m c ∗ (dat0 m c).owesAt 0 t0_0.castSucc
      ∗ ∃ d, owns (c : Thread nD τ) (win0_0.stage (cfg0.slots t0_0 0)) fullShare ((dat0 m c).before 0 t0_0 d))
    ⊢ wpK c (defs₀ (F := F) .tc cfg0.body (cfg0.bodyArgs t0_0 (cfg0.slots t0_0))) fun _ =>
      iprop(after m c ∗ (dat0 m c).owesAt 0 t0_0.succ ∗ owns (c : Thread nD τ) (win0_0.stage (cfg0.slots t0_0 0)) fullShare (iblk m c 0 t0_0))
  rw [call_eq]
  unfold before after Xk
  iintro ⟨⟨⟨%K, %ιs, #HI, Hg⟩, Hu, Hs, Hp⟩, HO, ⟨%d, Hw⟩⟩
  rw [before_block]
  ihave Hw := (Entails.of_eq (owns_blk (win0_0.stage (cfg0.slots t0_0 0)) c (iblk m c 0 t0_0))) $$ Hw
  ihave HO := (owes_out m c _ _ (owed_first m c)) $$ HO
  iapply (kernel_step (opsOf m) c (win0_0.stage (cfg0.slots t0_0 0)) _) $$ [HO Hg Hu Hs Hw]
  · isplitr; · iexact HI
    isplitl [HO]; · unfold own; iexact HO
    isplitl [Hg]; · iexact Hg
    iapply (mem_in m c _)
    isplitl [Hu]; · iexact Hu
    isplitl [Hs]; · iexact Hs
    iexact Hw
  iintro ⟨HO, Hz, Hm⟩
  ihave Hm := (mem_out m c _) $$ Hm
  icases Hm with ⟨Hu, Hs, Hw⟩
  isplitl [Hz Hu Hs Hp]
  · isplitl [Hz]; · iexact Hz
    isplitl [Hu]; · iexact Hu
    isplitl [Hs]; · iexact Hs
    iexact Hp
  isplitl [HO]
  · iapply (owes_in m c _ _ (owed_succ m c)); unfold own; iexact HO
  iapply (Entails.of_eq (owns_blk (win0_0.stage (cfg0.slots t0_0 0)) c (iblk m c 0 t0_0)).symm); iexact Hw

end Cert.K

end
-- ==== Proof.Segments.lean ====
/-
# The program's two segments

The host operations, then the kernel's region: how the state of the first enters the second, and what the region leaves.
-/
module

public import proofs.«01_k».proof.Proof.Region

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation)

variable {F : FTy → Type} [FloatOps F] (m : (ℓ : Loc nD τ sig) → Buf (Elt F) ℓ)

/-! ## Entering and leaving the region's invariant -/

/-- What the launch keeps for the region. -/
def Tk (c : Dev nD) : sProp (MM F) :=
  iprop(∃ K ιs, ctx (opsOf m) K ιs ∗ (bigSep Finset.univ fun d : Dev nD => reached ER (cell .bar d) 0) ∗ atPos ER (cell .bar c) 0 ∅ 0
    ∗ (bigSep (Finset.univ.erase Role.bar) fun ρ => openTok ER (cell ρ c)) ∗ toks c ∗ slots c ∗ creds c)

/-- The handshake's counter back at zero. -/
def Yk (c : Dev nD) : sProp (MM F) := semVal (cell .bar c) 0

/-- The cells are opened at the region's entry. -/
theorem opens (c : Dev nD) : iprop(Tk m c ∗ Pipeline.ownSems0 osem c ∗ levAts L lv) ⊢ (|={Set.univ}=> Xk m c : sProp (MM F)) := by
  rw [ownSems_eq]
  unfold Tk Xk
  iintro ⟨⟨%K, %ιs, #HI, #HB, Ha, Ho, Ht, Hs, Hc⟩, Hv, -⟩
  imod (open_all (opsOf m) (K := K) (ιs := ιs) c) $$ [Ho Hv] with Hst
  · isplitr; · iexact HI
    isplitl [Ho] <;> iassumption
  imodintro
  iexists K, ιs
  isplitr; · iexact HI
  unfold ghost
  isplitr; · iexact HB
  isplitl [Ha]; · iexact Ha
  isplitl [Hst]; · iexact Hst
  isplitl [Ht]; · iexact Ht
  isplitl [Hs] <;> iassumption

/-- Into the invariant. -/
theorem enters (c : Dev nD) :
    iprop(Pipeline.scopedRest (Pipeline.pin (pcfgs (F := F)) adm 0).spec c ∗ (∃ r, prngReg c r) ∗ StableHlo.held (c.tc : Thread nD τ) used (W₁ m c) ∗ Xk m c)
      ⊢ (pdats m 0 c).Φ 0 := by
  rw [show (pdats m 0 c).Φ 0 = before m c from Φ_zero m c]
  refine BIBase.Entails.trans (show _ ⊢ iprop(scratch c ∗ (∃ r, prngReg c r) ∗ StableHlo.held (c.tc : Thread nD τ) used (W₁ m c) ∗ Xk m c) from
    Entails.of_eq (congrArg (fun X => iprop(X ∗ (∃ r, prngReg c r) ∗ StableHlo.held (c.tc : Thread nD τ) used (W₁ m c) ∗ Xk m c)) (scopedRest0_eq c))) ?_
  unfold before
  iintro ⟨Hs, Hp, Hu, HX⟩
  isplitl [HX]; · iexact HX
  isplitl [Hu]; · iexact Hu
  isplitl [Hs]; · iexact Hs
  iexact Hp

/-- Out of the invariant. -/
theorem leaves (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) used (W₂ m c)
        ∗ Pipeline.ownSems0 osem c ∗ Yk c) := by
  rw [show (pdats m 0 c).Φ (Fin.last _) = after m c from Φ_last m c]
  refine BIBase.Entails.trans ?_ (show iprop(scratch c ∗ (∃ r, prngReg c r) ∗ StableHlo.held (c.tc : Thread nD τ) used (W₂ m c) ∗ Pipeline.ownSems0 osem c ∗ Yk c) ⊢ _ from
    Entails.of_eq (congrArg (fun X => iprop(X ∗ (∃ r, prngReg c r) ∗ StableHlo.held (c.tc : Thread nD τ) used (W₂ m c) ∗ Pipeline.ownSems0 osem c ∗ Yk c))
      (scopedRest0_eq c).symm))
  rw [ownSems_eq]
  unfold after zeros Yk
  iintro ⟨⟨Hb, Hz⟩, Hu, Hs, Hp⟩
  isplitl [Hs]; · iexact Hs
  isplitl [Hp]; · iexact Hp
  isplitl [Hu]; · iexact Hu
  isplitl [Hz] <;> iassumption

/-! ## The region's facts -/

/-- No semaphore of the kernel's is a staging buffer's. -/
theorem loc_ne_stage (ρ : Role) (w : Fin 1) (s : Fin (spec0 w).nbuf) : ρ.loc ≠ .dma ((spec0 w).sem s) := by
  revert s
  revert w
  cases ρ with
  | bar => decide
  | credit g => revert g; decide
  | load => decide
  | store q g => revert q g; decide
  | send g h q => revert g h q; decide
  | recv g h q => revert g h q; decide

theorem loc_scoped (ρ : Role) (h : ρ ≠ .bar) : ρ.loc.isScoped .tc = true := by
  cases ρ with
  | bar => exact absurd rfl h
  | credit g => revert g; decide
  | load => decide
  | store q g => revert q g; decide
  | send g n q => revert g n q; decide
  | recv g n q => revert g n q; decide

/-- The kernel's own semaphores are scoped, distinct, and none of the pipeline's. -/
theorem own_sems : Pipeline.OwnSemFacts spec0 osem :=
  ⟨fun k => loc_scoped k.1 k.2, fun k k' h => Subtype.ext (loc_inj h), fun k w s => loc_ne_stage k.1 w s⟩

theorem kit0 : Pipeline.PLaunchFacts (nD := nD) (τ := τ) (pcfgs (F := F)) 0 := launch0.toP

/-- What the region owes lies above the staging cells' level. -/
theorem cut0 : Pipeline.LevelCutOwed (pcfgs (F := F)) adm (pdats m) 0 L lv 0 (fun _ => 0) where
  hι c w s := by rw [L_tc]; simp
  hιb c w s := by
    show (match roleOf (.dma ((spec0 w).sem s)) with
      | some ρ => lvR ρ 0
      | none => 0) ≤ 0
    rw [show roleOf (.dma ((spec0 w).sem s)) = none from dif_neg fun ⟨ρ, h⟩ => loc_ne_stage ρ w s h]
  hD c t g i h := by
    have e : (pdats (F := F) m 0 c).owed t = if t.val = 0 then tallyL (due0 c) else 0 := rfl
    rw [e] at h
    split at h
    · obtain ⟨x, hx, rfl, rfl⟩ := tallyL_pos h
      obtain ⟨ρ, d, h1, h2, h3⟩ := over0 c x hx
      rw [h1, L_tc, lv_cell]
      refine ⟨?_, h3⟩
      generalize x.2.1 = k at h2
      interval_cases k <;> simp
    · exact absurd h (Nat.lt_irrefl 0)

/-- The window's array is never written. -/
theorem arr_end (c : Dev nD) (n : ℕ) : (dat0 (F := F) m c).arrAt 0 n = V m c main_v2 :=
  Dat.arrAt_in _ 0 rfl n

theorem arr_start (c : Dev nD) (w : Fin (Pipeline.pin (pcfgs (F := F)) adm 0).W) :
    (pdats m 0 c).arrAt w 0 = W₁ m c (Proc.devRef .tc (Pipeline.arrRef (Pipeline.pin (pcfgs (F := F)) adm 0).spec w)) := by
  obtain rfl : w = 0 := Subsingleton.elim (α := Fin 1) w 0
  exact arr_end m c 0
theorem arr_stop (c : Dev nD) (w : Fin (Pipeline.pin (pcfgs (F := F)) adm 0).W) :
    (pdats m 0 c).arrAt w (Pipeline.pin (pcfgs (F := F)) adm 0).N = W₂ m c (Proc.devRef .tc (Pipeline.arrRef (Pipeline.pin (pcfgs (F := F)) adm 0).spec w)) := by
  obtain rfl : w = 0 := Subsingleton.elim (α := Fin 1) w 0
  exact (arr_end m c _).trans (show W₁ m c main_v2 = W₂ m c main_v2 from (Function.update_of_ne (by decide) ..).symm)

/-- Off the buffers the kernel uses nothing changes. -/
theorem rest_same (c : Dev nD) (b : DevRef τ sig) (hb : b ∈ others \ used) : W₂ m c b = W₁ m c b :=
  Function.update_of_ne (fun h => (Finset.mem_sdiff.mp hb).2 (by rw [h]; unfold used; decide)) ..

set_option backward.isDefEq.respectTransparency.types false in
/-- The region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem own_sems
    used others used_sub kit0 rfl (fun c => (body0 m c).loose)
    (fun _ => 0) (fun c => tallyL (due0 c)) (fun c => (owed_zero m c).trans (zero_add _).symm) (owed_last m) (fun _ => rfl)
    (fun c w => by obtain rfl : w = 0 := Subsingleton.elim (α := Fin 1) w 0; rfl)
    (W₁ m) (W₂ m) (rest_same m)
    (Tk m) Yk (Xk m) Yk (opens m) (enters m) (leaves m)
    (fun c => by iintro H; imodintro; iexact H)
    (fun _ => 0) (cut0 m)
    (fun _ => iprop(emp)) (arr_start m) (arr_stop m)

/-! ## The segments -/

/-- The program's unscoped buffers. -/
def bufs : Finset (DevRef τ sig) := (StableHlo.tcRefs τ sig).filter fun b => ¬ b.isScoped

theorem unscoped_held (c : Dev nD) (W : Valuation τ sig (Elt F)) :
    (unscopedBufs c (fun b => W b) : sProp (MM F)) = StableHlo.held (c : Thread nD τ) bufs W := by
  unfold unscopedBufs StableHlo.held bufs StableHlo.tcRefs
  rw [Finset.filter_map, bigSep_map]
  rfl

/-- The window's array. -/
def arrs : Finset (DevRef τ sig) := Pipeline.arrRefs (τ := τ) (pcfgs (F := F) 0).spec

theorem arrs_eq : arrs (F := F) = {Proc.devRef .tc main_v2} := by
  unfold arrs Pipeline.arrRefs
  rfl
theorem bufs_parts : bufs = {Proc.devRef .tc main_v2} ∪ others := by unfold bufs others; decide
theorem arr_others : Disjoint ({Proc.devRef .tc main_v2} : Finset (DevRef τ sig)) others := by unfold others; decide

/-- The unscoped buffers are the window's array and the others. -/
theorem held_parts (c : Dev nD) (W : Valuation τ sig (Elt F)) :
    (StableHlo.held (c : Thread nD τ) bufs W : sProp (MM F))
      = iprop(StableHlo.held (c : Thread nD τ) (arrs (F := F)) W ∗ StableHlo.held (c : Thread nD τ) others W) := by
  unfold StableHlo.held
  rw [arrs_eq, bufs_parts, bigSep_union arr_others]
  rfl

/-- What rides beside the buffers up to the region. -/
def R (c : Dev nD) : sProp (MM F) := iprop(Tk m c ∗ (∃ r, prngReg c r) ∗ ∃ W, owes (c : Thread nD τ) (tallyL (due0 c)) W)

/-- Into the region. -/
theorem reg_pre (c : Dev nD) : iprop(StableHlo.held (c : Thread nD τ) bufs (W₁ m c) ∗ R m c) ⊢ (reg0 m).pre c := by
  show _ ⊢ iprop(StableHlo.held (c : Thread nD τ) (arrs (F := F)) (W₁ m c) ∗ (∃ r, prngReg c r)
    ∗ (StableHlo.held (c : Thread nD τ) others (W₁ m c) ∗ emp) ∗ Tk m c ∗ ∃ Wd, owes (c : Thread nD τ) (0 + tallyL (due0 c)) Wd)
  rw [held_parts, zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- Out of the region. -/
theorem reg_post (c : Dev nD) : (reg0 m).post c
    ⊢ iprop((StableHlo.held (c : Thread nD τ) bufs (W₂ m c) ∗ semVal (cell .bar c) 0) ∗ ∃ W, owes (c : Thread nD τ) (0 : CellTallies nD τ sig ℕ) W) := by
  show iprop(StableHlo.held (c : Thread nD τ) (arrs (F := F)) (W₂ m c) ∗ (∃ r, prngReg c r)
    ∗ (StableHlo.held (c : Thread nD τ) others (W₂ m c) ∗ emp) ∗ Yk c ∗ ∃ Wd, owes (c : Thread nD τ) (0 : CellTallies nD τ sig ℕ) Wd) ⊢ _
  rw [held_parts]
  unfold Yk
  iintro ⟨Ha, -, ⟨Ho, -⟩, Hb, HO⟩
  isplitr [HO]
  · isplitr [Hb]
    · isplitl [Ha] <;> iassumption
    iexact Hb
  iexact HO

theorem ops_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg0, Proc.devRef .tc main_v1} : Finset (DevRef τ sig)) ⊆ bufs
    unfold bufs; decide
  · show ({Proc.devRef .tc main_arg1, Proc.devRef .tc main_v2} : Finset (DevRef τ sig)) ⊆ bufs
    unfold bufs; decide

/-- The host operations, the region's resources riding along. -/
def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (fun c b => m (c, b)) (R m)

/-- The program. -/
def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

end Cert.K

end
-- ==== Proof.Launch.lean ====
/-
# The launch and the run

Every cell's invariant is made at the launch, the handshake's cells with their counters and the kernel's own without; positions,
tokens and slots are dealt to the devices; then the program runs as its two segments. `run_main`: whatever the schedule, the program
ends, with the arguments as they were, the result in `main_v3`, and every counter at zero.
-/
module

public import proofs.«01_k».proof.Proof.Segments

@[expose] public section

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Idealize.ShloMosaic.Pipeline (Dat Cfg Window BodyObligation)

variable {F : FTy → Type} [FloatOps F] (m : (ℓ : Loc nD τ sig) → Buf (Elt F) ℓ) (ρ : Dev nD → PrngReg)

/-! ## Cells and tokens -/

/-- The protocol's cells: a purpose and a device. -/
def cellEmb : Role × Dev nD ↪ GSem nD τ sig :=
  ⟨fun x => cell x.1 x.2, fun x y h =>
    Prod.ext (loc_inj (congrArg (fun g : GSem nD τ sig => g.2) h)) (congrArg (fun g : GSem nD τ sig => g.1.1) h)⟩

/-- The handshake's cells. -/
def barCells : Finset (GSem nD τ sig) := (({Role.bar} : Finset Role) ×ˢ (Finset.univ : Finset (Dev nD))).map cellEmb
/-- The kernel's own. -/
def ownCells : Finset (GSem nD τ sig) := (((Finset.univ : Finset Role).erase .bar) ×ˢ (Finset.univ : Finset (Dev nD))).map cellEmb

theorem cells_disjoint : Disjoint barCells ownCells := by
  unfold barCells ownCells
  rw [Finset.disjoint_map]
  exact Finset.disjoint_product.mpr (.inl (Finset.disjoint_singleton_left.mpr (Finset.notMem_erase _ _)))

theorem cells_all : barCells ∪ ownCells = (Finset.univ : Finset (Role × Dev nD)).map cellEmb := by
  unfold barCells ownCells
  rw [← Finset.map_union, ← Finset.union_product, ← Finset.insert_eq, Finset.insert_erase (Finset.mem_univ _), Finset.univ_product_univ]

theorem bar_dealt (Φ : GSem nD τ sig → sProp (MM F)) : bigSep barCells Φ = bigSep Finset.univ fun c : Dev nD => Φ (cell .bar c) := by
  unfold barCells
  rw [bigSep_map, by_pairs, BI.bigSep_singleton]
  rfl

theorem own_dealt (Φ : GSem nD τ sig → sProp (MM F)) :
    bigSep ownCells Φ = bigSep Finset.univ fun c : Dev nD => bigSep (Finset.univ.erase Role.bar) fun ρ => Φ (cell ρ c) := by
  unfold ownCells
  rw [bigSep_map, by_pairs, both_orders]
  rfl

theorem all_dealt (Φ : GSem nD τ sig → sProp (MM F)) :
    bigSep (barCells ∪ ownCells) Φ = bigSep Finset.univ fun x : Role × Dev nD => Φ (cell x.1 x.2) := by
  rw [cells_all, bigSep_map]
  rfl

/-! ## Funding -/

/-- The protocol's share of the launch's resources. -/
def ghost₀ : UT × Release.USlots Key := (launchOf barCells ownCells allToks, Release.initSlots Finset.univ 1)

/-- The launch's resources. -/
def u₀ : UU :=
  (initOf (Pipeline.cells (Pipeline.pin (pcfgs (F := F)) adm) cellOf_inj) (Pipeline.launchToks (Pipeline.pin (pcfgs (F := F)) adm) cellOf_inj), ghost₀)

/-- What one device gets of the ghost state. -/
def share (c : Dev nD) : sProp (MM F) :=
  iprop(atPos ER (cell .bar c) 0 ∅ 0 ∗ (bigSep (Finset.univ.erase Role.bar) fun ρ => openTok ER (cell ρ c)) ∗ toks c ∗ slots c)

/-- What all devices may consult. -/
def records (A : Ops F) (K : GSem nD τ sig → ℕ) (ιs : Key → ℕ) : sProp (MM F) :=
  iprop(ctx A K ιs ∗ bigSep Finset.univ fun d : Dev nD => reached ER (cell .bar d) 0)

instance records_persistent (A : Ops F) (K : GSem nD τ sig → ℕ) (ιs : Key → ℕ) : Persistent (records A K ιs) := by unfold records; infer_instance

/-- Slots' readers and writers, dealt. -/
theorem slots_dealt :
    iprop((bigSep (Finset.univ : Finset Key) fun k => (Release.readerAt ES k 0 : sProp (MM F)))
        ∗ bigSep ((Finset.univ : Finset Key) ×ˢ Finset.range 1) fun x => (Release.writeTok ES x.1 (x.2 + 1) : sProp (MM F)))
      = bigSep Finset.univ fun c : Dev nD => slots c := by
  rw [readers_dealt, writers_dealt]
  exact (bigSep_sep' _ _ _).symm

/-- The shares, from their parts. -/
theorem shares_eq :
    iprop((bigSep Finset.univ fun c : Dev nD => (atPos ER (cell .bar c) 0 ∅ 0 : sProp (MM F)))
        ∗ (bigSep Finset.univ fun c : Dev nD => bigSep (Finset.univ.erase Role.bar) fun ρ => openTok ER (cell ρ c))
        ∗ (bigSep Finset.univ fun c : Dev nD => toks c) ∗ bigSep Finset.univ fun c : Dev nD => slots c)
      = bigSep Finset.univ fun c : Dev nD => share c := by
  unfold share
  rw [bigSep_sep', bigSep_sep', bigSep_sep']

/-- Invariants, positions and tokens out of the launch's resources. -/
theorem fund (A : Ops F) :
    iprop((bigSep Finset.univ fun c : Dev nD => semVal (cell .bar c) 0) ∗ BI.own ((embR : Emb (UT × Release.USlots Key) (MM F)) ghost₀) ∗ levAts L lv)
      ⊢ (|={Set.univ}=> ∃ K ιs, records A K ιs ∗ bigSep Finset.univ fun c : Dev nD => share c : sProp (MM F)) := by
  unfold ghost₀
  iintro ⟨Hv, Hu, #HL⟩
  ihave Hu := (own_pair_emb (embR : Emb (UT × Release.USlots Key) (MM F)) _ _) $$ Hu
  icases Hu with ⟨HR, HS⟩
  imod (Rounds.fund_launch ER (Rd A) cells_disjoint (fun g _ h => h) allToks) $$ [Hv HR] with ⟨%K, -, Hinv, Hr, Hat, Hopen, Htok⟩
  · isplitl [Hv]
    · iapply (Entails.of_eq (bar_dealt (F := F) (fun g => semVal g 0)).symm); iexact Hv
    · iexact HR
  imod (Release.slots_init ES (Finset.univ : Finset Key) 1 (fun k => keySlot (F := F) k)) $$ HS with ⟨%ιs, -, Hsinv, Hrd, Hwr⟩
  imodintro
  iexists K, ιs
  isplitl [Hinv Hr Hsinv]
  · unfold records ctx
    isplitl [Hinv Hsinv]
    · isplitl [Hinv]
      · iapply (Entails.of_eq (all_dealt (F := F) (fun g => cellInv ER (Rd A) (K g) g))); iexact Hinv
      isplitl [Hsinv]; · iexact Hsinv
      iexact HL
    · iapply (Entails.of_eq (bar_dealt (F := F) (fun g => reached ER g 0))); iexact Hr
  iapply (Entails.of_eq (shares_eq (F := F)))
  isplitl [Hat]
  · iapply (Entails.of_eq (bar_dealt (F := F) (fun g => atPos ER g 0 ∅ 0))); iexact Hat
  isplitl [Hopen]
  · iapply (Entails.of_eq (own_dealt (F := F) (fun g => openTok ER g))); iexact Hopen
  isplitl [Htok]
  · iapply (Entails.of_eq (toks_dealt (F := F))); iexact Htok
  iapply (Entails.of_eq (slots_dealt (F := F)))
  isplitl [Hrd] <;> iassumption

/-! ## Dealing -/

/-- All of a resource on device 0. -/
def atZero (X : sProp (MM F)) (c : Dev nD) : sProp (MM F) := if c = 0 then X else iprop(emp)

theorem bigSep_atZero (X : sProp (MM F)) : bigSep Finset.univ (atZero X) = X := by
  rw [bigSep_univ_at _ (0 : Dev nD), bigSep_congr (s := Finset.univ.erase (0 : Dev nD)) (Ψ := fun _ => (BI.emp : sProp (MM F)))
    fun c hc => by unfold atZero; rw [if_neg (Finset.ne_of_mem_erase hc)]; rfl, BI.bigSep_emp_const]
  unfold atZero
  rw [if_pos rfl]
  exact BI.equiv_iff.mp sep_emp

/-- The protocol's resources wait on device 0 until they are dealt. -/
def G : Dev nD → sProp (MM F) := atZero (BI.own ((embR : Emb (UT × Release.USlots Key) (MM F)) ghost₀))

/-- The buffers at launch. -/
abbrev W₀ (c : Dev nD) : Valuation τ sig (Elt F) := fun b => m (c, b)

/-- What a device starts the program with. -/
abbrev T₀ (c : Dev nD) : sProp (MM F) := iprop(StableHlo.held (c : Thread nD τ) bufs (W₀ m c) ∗ R m c)
/-- What it ends it with. -/
abbrev Tₙ (c : Dev nD) : sProp (MM F) := iprop(StableHlo.held (c : Thread nD τ) bufs (W₂ m c) ∗ semVal (cell .bar c) 0)

/-- What a device has from the start that is no ghost state. -/
def bundle (c : Dev nD) : sProp (MM F) :=
  iprop(StableHlo.held (c : Thread nD τ) bufs (W₀ m c) ∗ creds c ∗ owes (c : Thread nD τ) (tallyL (due0 c)) ∅ ∗ ∃ r, prngReg c r)

theorem T₀_intro (K : GSem nD τ sig → ℕ) (ιs : Key → ℕ) (c : Dev nD) : iprop(records (opsOf m) K ιs ∗ (share c ∗ bundle m c)) ⊢ T₀ m c := by
  unfold records share bundle T₀ R Tk
  iintro ⟨⟨#HI, #HB⟩, ⟨Ha, Ho, Ht, Hs⟩, Hh, Hc, HO, Hp⟩
  isplitl [Hh]; · iexact Hh
  isplitl [Ha Ho Ht Hs Hc]
  · iexists K, ιs
    isplitr; · iexact HI
    isplitr; · iexact HB
    isplitl [Ha]; · iexact Ha
    isplitl [Ho]; · iexact Ho
    isplitl [Ht]; · iexact Ht
    isplitl [Hs] <;> iassumption
  isplitl [Hp]; · iexact Hp
  iexists ∅; iexact HO

theorem unscoped_sem (c : Dev nD) : (unscopedSems0 c : sProp (MM F)) = semVal (cell .bar c) 0 := by
  unfold unscopedSems0
  rw [show (Finset.univ.filter fun sm : SemLoc sig => ¬ sm.isScoped .tc) = {Role.bar.loc} from by decide, BI.bigSep_singleton]

/-- One device's holdings, sorted. -/
theorem sorted (c : Dev nD) :
    iprop(unscopedBufs c (fun b => m ((c : Thread nD τ).loc b)) ∗ unscopedSems0 c
        ∗ owes (c : Thread nD τ) (tallyL (due0 c)) ∅ ∗ Pipeline.launchCred (fun d => tallyL (due0 d)) c ∗ prngReg c (ρ c) ∗ G c)
      ⊢ (iprop(bundle m c ∗ (semVal (cell .bar c) 0 ∗ G c)) : sProp (MM F)) := by
  rw [show unscopedBufs c (fun b => m ((c : Thread nD τ).loc b)) = (StableHlo.held (c : Thread nD τ) bufs (W₀ m c) : sProp (MM F)) from unscoped_held c (W₀ m c),
    unscoped_sem]
  unfold bundle
  iintro ⟨Hh, Hv, HO, Hc, Hp, HG⟩
  ihave Hc := (creds_dealt (F := F) c) $$ Hc
  isplitl [Hh Hc HO Hp]
  · isplitl [Hh]; · iexact Hh
    isplitl [Hc]; · iexact Hc
    isplitl [HO]; · iexact HO
    iexists (ρ c); iexact Hp
  isplitl [Hv] <;> iassumption

/-- The launch: everything made and dealt. -/
theorem init :
    iprop((bigSep Finset.univ fun c : Dev nD => iprop(unscopedBufs c (fun b => m ((c : Thread nD τ).loc b)) ∗ unscopedSems0 c
          ∗ owes (c : Thread nD τ) (tallyL (due0 c)) ∅ ∗ Pipeline.launchCred (fun d => tallyL (due0 d)) c ∗ prngReg c (ρ c) ∗ G c)) ∗ levAts L lv)
      ⊢ (|={Set.univ}=> bigSep Finset.univ (T₀ m) : sProp (MM F)) := by
  iintro ⟨H, #HL⟩
  ihave H := (show _ ⊢ (bigSep Finset.univ fun c : Dev nD => iprop(bundle m c ∗ (semVal (cell .bar c) 0 ∗ G c)) : sProp (MM F)) from
    bigSep_mono fun c _ => sorted m ρ c) $$ H
  ihave H := (Entails.of_eq (bigSep_sep' _ _ _)) $$ H
  icases H with ⟨HB, H⟩
  ihave H := (Entails.of_eq (bigSep_sep' _ _ _)) $$ H
  icases H with ⟨Hv, HG⟩
  ihave Hu := (show bigSep Finset.univ (fun c : Dev nD => G (F := F) c) ⊢ _ from Entails.of_eq (bigSep_atZero _)) $$ HG
  imod (fund (opsOf m)) $$ [Hv Hu] with ⟨%K, %ιs, #HR, Hs⟩
  · isplitl [Hv]; · iexact Hv
    isplitl [Hu]; · iexact Hu
    iexact HL
  imodintro
  iapply (bigSep_with_persistent (R := records (opsOf m) K ιs) (Φ := fun c => iprop(share c ∗ bundle m c)) fun c _ => T₀_intro m K ιs c)
  isplitr; · iexact HR
  iapply (Entails.of_eq (bigSep_sep' _ _ _).symm)
  isplitl [Hs] <;> iassumption

/-! ## The run -/

theorem bufs_list (c : Dev nD) (W : Valuation τ sig (Elt F)) : (StableHlo.held (c : Thread nD τ) bufs W : sProp (MM F))
    = iprop(pts c main_arg0 (W main_arg0) ∗ pts c main_arg1 (W main_arg1) ∗ pts c main_v1 (W main_v1) ∗ pts c main_v2 (W main_v2) ∗ pts c main_v3 (W main_v3)) := by
  unfold StableHlo.held
  rw [bigSep_eq_bigSepL_of_eq [Proc.devRef .tc main_arg0, Proc.devRef .tc main_arg1, Proc.devRef .tc main_v1, Proc.devRef .tc main_v2, Proc.devRef .tc main_v3]
    (by unfold bufs; decide) (by decide)]
  rfl

theorem W₂_arg0 (c : Dev nD) : W₂ m c main_arg0 = m ((c : Thread nD τ).loc main_arg0) :=
  (Function.update_of_ne (by decide) ..).trans (V_main_arg0 m c)
theorem W₂_arg1 (c : Dev nD) : W₂ m c main_arg1 = m ((c : Thread nD τ).loc main_arg1) :=
  (Function.update_of_ne (by decide) ..).trans (V_main_arg1 m c)

theorem unscoped_bar : ∀ sm : SemLoc sig, sm.isScoped .tc = false → sm = Role.bar.loc := by decide

set_option backward.isDefEq.respectTransparency.types false in
/-- The run: every execution ends, with the arguments as they were, the result in `main_v3`, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v3) = outV (opsOf m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => tallyL (due0 c)) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun c => .rfl, fun c => reg_pre m c, fun c => reg_post m c⟩)
    (hinit := init m ρ)
    (QY := fun c s => ((s.mem ((c : Thread nD τ).loc main_arg0) = W₂ m c main_arg0 ∧ s.mem ((c : Thread nD τ).loc main_arg1) = W₂ m c main_arg1)
        ∧ s.mem ((c : Thread nD τ).loc main_v3) = W₂ m c main_v3) ∧ s.sem (cell .bar c) = 0)
    (hfin := fun c s' => by
      dsimp only [Tₙ]; rw [bufs_list]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨⟨Buf.eq_of_forall_mem_univ h0, Buf.eq_of_forall_mem_univ h1⟩, Buf.eq_of_forall_mem_univ h3⟩, by simpa using hb⟩
      iexact HSI)
    (hQ := fun s h hs => ⟨fun c => by
        obtain ⟨⟨⟨h0, h1⟩, h3⟩, -⟩ := h c
        exact ⟨⟨h0.trans (W₂_arg0 m c), h1.trans (W₂_arg1 m c)⟩, h3.trans (W₂_v3 m c)⟩,
      sem_eq_zero hs fun c sm hsm => by
        obtain rfl := unscoped_bar sm hsm
        exact (h c).2⟩)

end Cert.K

end
-- ==== Proof.Value.lean ====
/-
# The result's value

Over exact numbers a device's block of the result is the reference's: the ring adds the four devices' products of their own columns
of the left operand with their own rows of the weights, in an order that starts at the neighbour and ends at the device itself, and
the reference contracts all 4096 positions at once, which are the four devices' 1024 in turn.
-/
module

public import proofs.«01_k».proof.Proof.Region
public import proofs.«01_k».proof.Proof.Gen.ReferenceIdeal.Run
public import Idealize.ShloMosaic.Lib.Layout
public import Idealize.ShloMosaic.Lib.MatmulPlain

@[expose] public section

noncomputable section

namespace Cert.K

open Cert.KernelIdeal Cert.KernelIdeal.Gen
open Idealize.ShloMosaic Idealize.ShloMosaic.TcCoe Idealize.ShloMosaic.ValueIdx

/-! ## One device's product -/

/-- A row block's product with half of the weights' columns, at one element. -/
theorem pay3_at (a : Vec Ideal S1x512x1024 .f32) (w : Vec Ideal S1024x2048 .bf16) (r : Fin 512) (q : Fin 2048) :
    k0_pay3 a w (ix3 (0 : Fin 1) r q) = ∑ k : Fin 1024, a (ix3 (0 : Fin 1) r k) * w (ix2 k q) := by
  unfold k0_pay3
  refine (shapeCast_apply _ _ (ix3 (0 : Fin 1) r q) (ix2 r q) (by
    rw [Shape.rowMajor_val_two, Shape.rowMajor_val_three]; show r.val * 2048 + q.val = (0 * 512 + r.val) * 2048 + q.val; omega)).trans ?_
  refine (Ideal.matmul_plain_apply (M := 512) (K := 1024) (N := 2048) none _ _ _ r q).trans ?_
  refine (congrArg (· + _) (show constant (F := Ideal) S512x2048 .f32 0x00000000#32 (ix2 r q) = (0 : EReal) from Ideal.ofBits_zero_f32)).trans ?_
  refine (zero_add _).trans (Finset.sum_congr rfl fun k _ => ?_)
  refine congrArg₂ (· * ·) ?_ ?_
  · exact shapeCast_apply a _ (ix2 r k) (ix3 (0 : Fin 1) r k) (by
      rw [Shape.rowMajor_val_two, Shape.rowMajor_val_three]; show (0 * 512 + r.val) * 1024 + k.val = r.val * 1024 + k.val; omega)
  · exact shapeCast_apply w _ (ix2 k q) (ix2 k q) rfl

variable (A : Ops Ideal)

/-- What device `d`'s operands add to row `i` of device `c`'s block, in column `j`. -/
def share₁ (c d : Dev nD) (b : Fin 2) (i : Fin 512) (j : Fin 4096) : EReal :=
  ∑ k : Fin 1024, A.o d (ix3 b (⟨512 * c.val + i.val, by have := c.isLt; have := i.isLt; have : nD = 4 := rfl; omega⟩ : Fin 2048) k) * A.w d (ix2 k j)

/-- The column of the result that column `q` of ring `g`'s half is. -/
def col (g : Bool) (q : Fin 2048) : Fin 4096 := ⟨2048 * g.toNat + q.val, by have := q.isLt; cases g <;> simp <;> omega⟩

theorem PP_at (g : Bool) (n : ℕ) (d c : Dev nD) (h : behind g n d = c) (b : Fin 2) (i : Fin 512) (q : Fin 2048) :
    PP A g n d (ix3 b i q) = share₁ A c d b i (col g q) := by
  subst h
  unfold PP
  refine (pay3_at _ _ i q).trans (Finset.sum_congr rfl fun k _ => congrArg₂ (· * ·) ?_ ?_)
  · unfold chunk
    congr 1
    funext a
    match a with
    | ⟨0, _⟩ => exact Fin.ext (show 0 + 1 * (b.val + 1 * 0) = b.val by omega)
    | ⟨1, _⟩ => exact Fin.ext (show 512 * (behind g n d).val + 1 * (0 + 1 * i.val) = 512 * (behind g n d).val + i.val by omega)
    | ⟨2, _⟩ => exact Fin.ext (show 0 + 1 * (0 + 1 * k.val) = k.val by omega)
  · congr 1
    funext a
    match a with
    | ⟨0, _⟩ => exact Fin.ext (show 0 + 1 * k.val = k.val by omega)
    | ⟨1, _⟩ => exact Fin.ext (show 2048 * g.toNat + 1 * q.val = 2048 * g.toNat + q.val by omega)

/-- The four partial products that meet on a device are of its own row block. -/
theorem behind_own (g : Bool) (c : Dev nD) :
    behind g 0 (prv g (prv g (prv g c))) = c ∧ behind g 1 (prv g (prv g c)) = c ∧ behind g 2 (prv g c) = c ∧ behind g 3 c = c := by
  unfold behind; revert g c; decide

/-- Going round the ring meets every device once. -/
theorem around (g : Bool) (c : Dev nD) (f : Dev nD → EReal) :
    ((f (prv g (prv g (prv g c))) + f (prv g (prv g c))) + f (prv g c)) + f c = ∑ d : Dev nD, f d := by
  have e : (Finset.univ : Finset (Dev nD)) = {prv g (prv g (prv g c)), prv g (prv g c), prv g c, c} := by revert g c; decide
  have h1 : prv g (prv g (prv g c)) ∉ ({prv g (prv g c), prv g c, c} : Finset (Dev nD)) := by revert g c; decide
  have h2 : prv g (prv g c) ∉ ({prv g c, c} : Finset (Dev nD)) := by revert g c; decide
  have h3 : prv g c ∉ ({c} : Finset (Dev nD)) := by revert g c; decide
  rw [e, Finset.sum_insert h1, Finset.sum_insert h2, Finset.sum_insert h3, Finset.sum_singleton, ← add_assoc, ← add_assoc]

theorem ZZ_at (g : Bool) (c : Dev nD) (b : Fin 2) (i : Fin 512) (q : Fin 2048) :
    ZZ A g c (ix3 b i q) = ∑ d : Dev nD, share₁ A c d b i (col g q) := by
  obtain ⟨h0, h1, h2, h3⟩ := behind_own g c
  rw [← around g c]
  show ((PP A g 0 (prv g (prv g (prv g c))) (ix3 b i q) + PP A g 1 (prv g (prv g c)) (ix3 b i q) : EReal) + PP A g 2 (prv g c) (ix3 b i q)) + PP A g 3 c (ix3 b i q) = _
  rw [PP_at A g 0 _ c h0, PP_at A g 1 _ c h1, PP_at A g 2 _ c h2, PP_at A g 3 _ c h3]

/-- A device's block of the result is the sum of all devices' shares. -/
theorem outV_at (c : Dev nD) (b : Fin 2) (i : Fin 512) (j : Fin 4096) : outV A c (ix3 b i j) = ∑ d : Dev nD, share₁ A c d b i j := by
  unfold outV
  by_cases h : j.val < 2048
  · rw [dif_pos (show ((ix3 b i j : S2x512x4096.Idx) 2).val < 2048 from h)]
    refine (ZZ_at A false c b i ⟨j.val, h⟩).trans ?_
    rw [show col false ⟨j.val, h⟩ = j from Fin.ext (by simp [col])]
  · rw [dif_neg (show ¬ ((ix3 b i j : S2x512x4096.Idx) 2).val < 2048 from h)]
    have hj := j.isLt
    refine (ZZ_at A true c b i ⟨j.val - 2048, by omega⟩).trans ?_
    rw [show col true ⟨j.val - 2048, by omega⟩ = j from Fin.ext (by simp [col]; omega)]

/-! ## The reference -/

/-- The reference's result from the whole operands. -/
def whole (x : Cert.ReferenceIdeal.S2x2048x64x64.Idx → EReal) (w : Cert.ReferenceIdeal.S4096x4096.Idx → EReal) : Cert.ReferenceIdeal.S2x2048x4096.Idx → EReal :=
  Host.dotGeneral (F := Ideal) (φ₁ := .f32) (φ₂ := .f32) Cert.ReferenceIdeal.dot_S2x2048x4096_S4096x4096_S2x2048x4096_2_0_01_1_n_n none
    (shapeCast _ x Cert.ReferenceIdeal.Gen.shapeCasts_S2x2048x64x64_S2x2048x4096) w

/-- A column of the left operand with its heads laid side by side: the head and the position in it. -/
def headAt (x : Cert.ReferenceIdeal.S2x2048x64x64.Idx → EReal) (b : Fin 2) (s : Fin 2048) (K : Fin 4096) : EReal :=
  x (ix4 b s (⟨K.val / 64, by have := K.isLt; omega⟩ : Fin 64) (⟨K.val % 64, Nat.mod_lt _ (by decide)⟩ : Fin 64))

/-- The reference at one element: all 4096 positions contracted. -/
theorem whole_at (x : Cert.ReferenceIdeal.S2x2048x64x64.Idx → EReal) (w : Cert.ReferenceIdeal.S4096x4096.Idx → EReal) (b : Fin 2) (s : Fin 2048) (j : Fin 4096) :
    whole x w (ix3 b s j) = ∑ K : Fin 4096, headAt x b s K * w (ix2 K j) := by
  let D := Cert.ReferenceIdeal.dot_S2x2048x4096_S4096x4096_S2x2048x4096_2_0_01_1_n_n
  show FloatOps.dotGeneral D none _ _ _ (ix3 b s j) = _
  rw [Ideal.dotGeneral_apply, ← Equiv.sum_comp (contrEquiv1 D 4096 rfl rfl).symm]
  refine Finset.sum_congr rfl fun K _ => ?_
  have hK := contrEquiv1_symm_val D 4096 rfl rfl K
  refine congrArg₂ (· * ·) ?_ ?_
  · refine (congrArg _ (show D.lhsIdx (ix3 b s j) ((contrEquiv1 D 4096 rfl rfl).symm K) = ix3 b s K from ?_)).trans
      (shapeCast_apply x _ (ix3 b s K) _ ?_)
    · funext a; apply Fin.ext
      match a with
      | ⟨0, _⟩ => rfl
      | ⟨1, _⟩ => rfl
      | ⟨2, _⟩ => exact hK
    · rw [Shape.rowMajor_val_four, Shape.rowMajor_val_three]
      show ((b.val * 2048 + s.val) * 64 + K.val / 64) * 64 + K.val % 64 = (b.val * 2048 + s.val) * 4096 + K.val
      omega
  · refine congrArg w ?_
    funext a; apply Fin.ext
    match a with
    | ⟨0, _⟩ => exact hK
    | ⟨1, _⟩ => rfl

/-- The contracted positions are the devices' in turn. -/
theorem contracted (f : Fin 4096 → EReal) :
    ∑ K : Fin 4096, f K = ∑ d : Fin 4, ∑ k : Fin 1024, f ⟨d.val * 1024 + k.val, by have := d.isLt; have := k.isLt; omega⟩ := by
  rw [← Equiv.sum_comp (finProdFinEquiv (m := 4) (n := 1024)) f, Fintype.sum_prod_type]
  refine Finset.sum_congr rfl fun d _ => Finset.sum_congr rfl fun k _ => congrArg f (Fin.ext ?_)
  show k.val + 1024 * d.val = d.val * 1024 + k.val
  omega

/-! ## The two agree -/

theorem tiles_o : Layout.Tiles ⟨4, ![2, 2048, 16, 64]⟩ ⟨4, ![2, 2048, 64, 64]⟩ 2 4 := by decide
theorem tiles_w : Layout.Tiles ⟨2, ![1024, 4096]⟩ ⟨2, ![4096, 4096]⟩ 0 4 := by decide
theorem tiles_r : Layout.Tiles ⟨3, ![2, 512, 4096]⟩ ⟨3, ![2, 2048, 4096]⟩ 1 4 := by decide

/-- Where a device's heads, laid side by side, lie in the whole left operand's. -/
theorem heads_at (x : Cert.ReferenceIdeal.S2x2048x64x64.Idx → EReal) (d : Dev nD) (b : Fin 2) (s : Fin 2048) (k : Fin 1024)
    (h : S2x2048x16x64.ShapeCasts S2x2048x1024) :
    shapeCast S2x2048x1024 (Layout.block ⟨4, ![2, 2048, 16, 64]⟩ ⟨4, ![2, 2048, 64, 64]⟩ 2 4 d x tiles_o) h (ix3 b s k)
      = headAt x b s ⟨d.val * 1024 + k.val, by have := d.isLt; have := k.isLt; have : nD = 4 := rfl; omega⟩ := by
  have hk := k.isLt
  refine (shapeCast_apply _ h (ix3 b s k) (ix4 b s (⟨k.val / 64, by omega⟩ : Fin 16) (⟨k.val % 64, Nat.mod_lt _ (by decide)⟩ : Fin 64)) ?_).trans ?_
  · rw [Shape.rowMajor_val_four, Shape.rowMajor_val_three]
    show ((b.val * 2048 + s.val) * 16 + k.val / 64) * 64 + k.val % 64 = (b.val * 2048 + s.val) * 1024 + k.val
    omega
  · unfold headAt
    rw [Layout.block_apply]
    congr 1
    funext a; apply Fin.ext
    match a with
    | ⟨0, _⟩ => rfl
    | ⟨1, _⟩ => rfl
    | ⟨2, _⟩ => show d.val * 16 + k.val / 64 = (d.val * 1024 + k.val) / 64; omega
    | ⟨3, _⟩ => show k.val % 64 = (d.val * 1024 + k.val) % 64; omega

/-- From operands that are the whole ones' parts, the result is the whole one's part. -/
theorem value (x : Cert.ReferenceIdeal.S2x2048x64x64.Idx → EReal) (w : Cert.ReferenceIdeal.S4096x4096.Idx → EReal)
    (ho : ∀ d b s (k : Fin 1024), A.o d (ix3 b s k) = headAt x b s ⟨d.val * 1024 + k.val, by have := d.isLt; have := k.isLt; have : nD = 4 := rfl; omega⟩)
    (hw : ∀ d (k : Fin 1024) j, A.w d (ix2 k j) = w (ix2 (⟨d.val * 1024 + k.val, by have := d.isLt; have := k.isLt; have : nD = 4 := rfl; omega⟩ : Fin 4096) j))
    (c : Dev nD) : outV A c = Layout.block ⟨3, ![2, 512, 4096]⟩ ⟨3, ![2, 2048, 4096]⟩ 1 4 c (whole x w) tiles_r := by
  funext i
  obtain ⟨b, r, j, rfl⟩ : ∃ (b : Fin 2) (r : Fin 512) (j : Fin 4096), i = ix3 b r j := ⟨i 0, i 1, i 2, eq_ix3 i⟩
  have hr := r.isLt
  have hc : c.val < 4 := c.isLt
  rw [outV_at, Layout.block_apply]
  rw [show tiles_r.idx c (ix3 b r j) = ix3 b (⟨512 * c.val + r.val, by omega⟩ : Fin 2048) j from by
    funext a; apply Fin.ext
    match a with
    | ⟨0, _⟩ => rfl
    | ⟨1, _⟩ => show c.val * 512 + r.val = 512 * c.val + r.val; omega
    | ⟨2, _⟩ => rfl]
  rw [whole_at, contracted]
  refine Finset.sum_congr rfl fun d _ => Finset.sum_congr rfl fun k _ => ?_
  rw [ho, hw]

/-! ## The operands the kernel finds -/

section
variable (m : (ℓ : Loc nD τ sig) → Buf (Elt Ideal) ℓ)

/-- The left operand is the argument with its heads laid side by side. -/
theorem ops_o (c : Dev nD) : (opsOf m).o c = shapeCast S2x2048x1024 (m ((c : Thread nD τ).loc main_arg0)) shapeCasts_S2x2048x16x64_S2x2048x1024 := by
  show StableHlo.after hostOps0 (fun b => m (c, b)) (Proc.devRef .tc main_v1) = _
  unfold hostOps0
  after_results
  rfl

/-- The weights are the argument: a change of format changes no exact number. -/
theorem ops_w (c : Dev nD) : (opsOf m).w c = m ((c : Thread nD τ).loc main_arg1) := by
  have hz : (fun a => win0_0.index t0_0 a * main_v2.ty.shape.size a) = fun _ => 0 := funext fun a => by fin_cases a <;> decide
  refine (Memref.read_access_unit_zero (Elt Ideal) main_v2 hz (fun a => by rw [congrFun hz a]; simp) (V m c main_v2)).trans ?_
  show StableHlo.after hostOps0 (fun b => m (c, b)) (Proc.devRef .tc main_v2) = _
  unfold hostOps0
  after_results
  rfl

/-- Every device's block of the result is the reference's, when its arguments are the whole arguments' parts. -/
theorem result_block (x : Cert.ReferenceIdeal.S2x2048x64x64.Idx → EReal) (w : Cert.ReferenceIdeal.S4096x4096.Idx → EReal)
    (hx : ∀ c : Dev nD, m ((c : Thread nD τ).loc main_arg0) = Layout.block ⟨4, ![2, 2048, 16, 64]⟩ ⟨4, ![2, 2048, 64, 64]⟩ 2 4 c x tiles_o)
    (hw : ∀ c : Dev nD, m ((c : Thread nD τ).loc main_arg1) = Layout.block ⟨2, ![1024, 4096]⟩ ⟨2, ![4096, 4096]⟩ 0 4 c w tiles_w) (c : Dev nD) :
    outV (opsOf m) c = Layout.block ⟨3, ![2, 512, 4096]⟩ ⟨3, ![2, 2048, 4096]⟩ 1 4 c (whole x w) tiles_r := by
  refine value (opsOf m) x w (fun d b s k => ?_) (fun d k j => ?_) c
  · rw [ops_o, hx]
    exact heads_at x d b s k _
  · rw [ops_w, hw, Layout.block_apply]
    congr 1
    funext a; apply Fin.ext
    match a with
    | ⟨0, _⟩ => rfl
    | ⟨1, _⟩ => rfl

end

end Cert.K

end
-- ==== Proof.Same.lean ====
/-
# The two texts are one

The kernel's program and the program read over exact numbers are printed from one module, and no operation was rewritten: they agree
definition by definition.
-/
module

public import proofs.«01_k».proof.Defs
public import proofs.«01_k».proof.Proof.Gen.Kernel
public import proofs.«01_k».proof.Proof.Gen.KernelIdeal

@[expose] public section

noncomputable section

namespace Cert.K

open Idealize.ShloMosaic Idealize.SL.Sem

variable {F : FTy → Type} [FloatOps F]

set_option maxRecDepth 65536 in
/-- The two bodies. -/
theorem bodies_same : Cert.Kernel.defs₀ (F := F) = Cert.KernelIdeal.defs₀ (F := F) := by
  unfold Cert.Kernel.defs₀ Cert.KernelIdeal.defs₀
  refine congrArg (Defs.onTc (Λ := Cert.Kernel.Λ₀)) ?_
  funext ℓ x
  match ℓ, x with
  | 0, (t, s) => rfl
  | ⟨n + 1, h⟩, _ => exact absurd h (Nat.not_lt.2 (Nat.le_add_left _ _))

set_option maxRecDepth 65536 in
/-- The two tables of bodies. -/
theorem defs_same : Cert.Kernel.defs (F := F) = Cert.KernelIdeal.defs (F := F) := by
  unfold Cert.Kernel.defs Cert.KernelIdeal.defs
  exact congrArg (Pipeline.defs Cert.Kernel.pcfgs) bodies_same

set_option maxRecDepth 65536 in
/-- The two programs. -/
theorem main_same : Cert.Kernel.main (F := F) = Cert.KernelIdeal.main (F := F) := rfl

end Cert.K

end
-- ==== Proof.lean ====
/-
# The certificate

The frames of the three programs and the value of the kernel over exact numbers against the reference, put together. One run serves
both of the kernel's programs: the two texts are the same, and the run is proved for floats of any kind.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs and ends with its arguments unchanged and every counter at zero. -/
theorem frame_kernel : Cert.quiescent_Kernel := fun m ρ _ => by
  rw [Cert.K.defs_same, Cert.K.main_same]
  exact (θ_run Cert.KernelIdeal.defs _ _).mono (fun _ h => ⟨fun c => (h.1 c).1, h.2⟩) (Cert.K.run_main (F := Bits) m ρ)

/-- So does the kernel over exact numbers. -/
theorem frame_ideal : Cert.quiescent_KernelIdeal := fun m ρ _ =>
  (θ_run Cert.KernelIdeal.defs _ _).mono (fun _ h => ⟨fun c => (h.1 c).1, h.2⟩) (Cert.K.run_main (F := Ideal) m ρ)

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact numbers every device's result is its block of the reference's. -/
theorem equal : Cert.algebraic_KernelIdeal_ReferenceIdeal := fun m ρ m' ρ' _ hm =>
  ⟨Cert.K.whole (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.trans (Cert.K.result_block m _ _ (fun d => (hm d).1) (fun d => (hm d).2) c), (h.1 c).1⟩) (Cert.K.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, equal⟩

end Cert.Proof

end
